-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ring_of_finite [hPre_ring_of_finite : Cert.Pre_ring_of_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ring_of_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_ring_of_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_ring_of_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ring_of_finite [hPre_ring_of_finite : Cert.Pre_ring_of_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ring_of_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_ring_of_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_ring_of_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ring_of_finite [hKernelIdeal : Cert.KernelIdeal.Facts] [hPre_ring_of_finite : Cert.Pre_ring_of_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ring_of_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ring_of_finite [hReferenceIdeal : Cert.ReferenceIdeal.Facts] [hPre_ring_of_finite : Cert.Pre_ring_of_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ring_of_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "degree" .f32 0x41000001#32 ((70368752973757 / 8796093022208 : ℝ) : EReal)

def algebraic_KernelIdeal_ReferenceIdeal_pre_ring_of_finite [hKernelIdeal : Cert.KernelIdeal.Facts] [hReferenceIdeal : Cert.ReferenceIdeal.Facts] [hPre_ring_of_finite : Cert.Pre_ring_of_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ring_of_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ring_of_finite : Cert.Pre_ring_of_finite.Facts),
    quiescent_Kernel (hKernel := hKernel)
    ∧ quiescent_KernelIdeal (hKernelIdeal := hKernelIdeal)
    ∧ quiescent_KernelIdeal_pre_ring_of_finite (hKernelIdeal := hKernelIdeal) (hPre_ring_of_finite := hPre_ring_of_finite)
    ∧ quiescent_ReferenceIdeal (hReferenceIdeal := hReferenceIdeal)
    ∧ quiescent_ReferenceIdeal_pre_ring_of_finite (hReferenceIdeal := hReferenceIdeal) (hPre_ring_of_finite := hPre_ring_of_finite)
    ∧ preserves_Kernel_KernelIdeal
    ∧ algebraic_KernelIdeal_ReferenceIdeal_pre_ring_of_finite (hKernelIdeal := hKernelIdeal) (hReferenceIdeal := hReferenceIdeal) (hPre_ring_of_finite := hPre_ring_of_finite)
-- ==== Pre_ring_of_finite.lean ====
abbrev S256x256 : Shape := ⟨2, ![256, 256]⟩
abbrev S4x64 : Shape := ⟨2, ![4, 64]⟩
abbrev S64 : Shape := ⟨1, ![64]⟩
abbrev S4x64x64 : Shape := ⟨3, ![4, 64, 64]⟩
abbrev S64x4 : Shape := ⟨2, ![64, 4]⟩
abbrev S4 : Shape := ⟨1, ![4]⟩
abbrev S_ : Shape := ⟨0, ![]⟩
abbrev S2x524288 : Shape := ⟨2, ![2, 524288]⟩
abbrev S524288 : Shape := ⟨1, ![524288]⟩
abbrev S1x524288 : Shape := ⟨2, ![1, 524288]⟩

class Facts : Prop where
  bcast_S_S524288 : S_.BroadcastsInDim S524288 (![] : Fin 0 → Fin S524288.rank)
  natLt_1_32 : 1 < 32
  bcast_S_S256x256 : S_.BroadcastsInDim S256x256 (![] : Fin 0 → Fin S256x256.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288

variable [Facts]

def fn_part1 {F : FTy → Type} [FloatOps F] (main_arg9 : IVec S2x524288 32) (main_v2 : IVec S524288 32) (main_v13 : IVec S524288 32) (main_v16 : IVec S256x256 1) (main_v17 : IVec S1x524288 32) : IVec S256x256 1 × IVec S524288 1 × IVec S524288 1 :=
  let main_v18 : IVec S524288 32 := shapeCast S524288 main_v17 shapeCasts_S1x524288_S524288
  let main_v19 : IVec S524288 1 := cmpi .eq main_v18 main_v2
  let main_v20 : IVec S1x524288 32 := (extractStridedSlice S1x524288 ![1, 0] · slices_S2x524288_S1x524288_1_0) main_arg9
  let main_v21 : IVec S524288 32 := shapeCast S524288 main_v20 shapeCasts_S1x524288_S524288
  let main_v22 : IVec S524288 1 := cmpi .eq main_v21 main_v13
  (main_v16, main_v19, main_v22)

def fn {F : FTy → Type} [FloatOps F] (main_arg0 : FVec F S256x256 .f32) (main_arg1 : FVec F S4x64 .f32) (main_arg2 : FVec F S64 .f32) (main_arg3 : FVec F S4x64x64 .f32) (main_arg4 : FVec F S4x64 .f32) (main_arg5 : FVec F S64x4 .f32) (main_arg6 : FVec F S4 .f32) (main_arg7 : FVec F S_ .f32) (main_arg8 : FVec F S_ .f32) (main_arg9 : IVec S2x524288 32) : IVec S256x256 1 × IVec S524288 1 × IVec S524288 1 :=
  let main_v0 : IVec S524288 32 := iotaInDim S524288 32 0
  let main_c : IVec S_ 32 := constantI S_ 32 3#32
  let main_v1 : IVec S524288 32 := broadcastInDim S524288 ![] bcast_S_S524288 main_c
  let main_v2 : IVec S524288 32 := Host.shrui main_v0 main_v1
  let main_c_0 : IVec S_ 32 := constantI S_ 32 7#32
  let main_v3 : IVec S524288 32 := broadcastInDim S524288 ![] bcast_S_S524288 main_c_0
  let main_v4 : IVec S524288 32 := andi main_v0 main_v3
  let main_c_1 : IVec S_ 32 := constantI S_ 32 4#32
  let main_v5 : IVec S524288 32 := broadcastInDim S524288 ![] bcast_S_S524288 main_c_1
  let main_v6 : IVec S524288 32 := subi main_v4 main_v5
  let main_c_2 : IVec S_ 32 := constantI S_ 32 4#32
  let main_v7 : IVec S524288 32 := broadcastInDim S524288 ![] bcast_S_S524288 main_c_2
  let main_v8 : IVec S524288 1 := cmpi .sge main_v4 main_v7
  let main_v9 : IVec S524288 32 := (extui 32 · natLt_1_32) main_v8
  let main_v10 : IVec S524288 32 := addi main_v6 main_v9
  let main_v11 : IVec S524288 32 := addi main_v2 main_v10
  let main_c_3 : IVec S_ 32 := constantI S_ 32 65535#32
  let main_v12 : IVec S524288 32 := broadcastInDim S524288 ![] bcast_S_S524288 main_c_3
  let main_v13 : IVec S524288 32 := andi main_v11 main_v12
  let main_v14 : FVec F S256x256 .f32 := Host.absf main_arg0
  let main_cst : FVec F S_ .f32 := constant S_ .f32 0x7F800000#32
  let main_v15 : FVec F S256x256 .f32 := broadcastInDim S256x256 ![] bcast_S_S256x256 main_cst
  let main_v16 : IVec S256x256 1 := cmpf .olt main_v14 main_v15
  let main_v17 : IVec S1x524288 32 := (extractStridedSlice S1x524288 ![0, 0] · slices_S2x524288_S1x524288_0_0) main_arg9
  fn_part1 (F := F) main_arg9 main_v2 main_v13 main_v16 main_v17
-- ==== Kernel.lean ====
abbrev S256x256 : Shape := ⟨2, ![256, 256]⟩
abbrev S4x64 : Shape := ⟨2, ![4, 64]⟩
abbrev S64 : Shape := ⟨1, ![64]⟩
abbrev S4x64x64 : Shape := ⟨3, ![4, 64, 64]⟩
abbrev S64x4 : Shape := ⟨2, ![64, 4]⟩
abbrev S4 : Shape := ⟨1, ![4]⟩
abbrev S_ : Shape := ⟨0, ![]⟩
abbrev S2x524288 : Shape := ⟨2, ![2, 524288]⟩
abbrev S1 : Shape := ⟨1, ![1]⟩
abbrev S2 : Shape := ⟨1, ![2]⟩
abbrev S2x1 : Shape := ⟨2, ![2, 1]⟩
abbrev S1x1 : Shape := ⟨2, ![1, 1]⟩
abbrev S1x65536 : Shape := ⟨2, ![1, 65536]⟩
abbrev S1x64 : Shape := ⟨2, ![1, 64]⟩
abbrev S5x64 : Shape := ⟨2, ![5, 64]⟩
abbrev S4x1x64 : Shape := ⟨3, ![4, 1, 64]⟩
abbrev S4x65x64 : Shape := ⟨3, ![4, 65, 64]⟩
abbrev S1x4 : Shape := ⟨2, ![1, 4]⟩
abbrev S65x4 : Shape := ⟨2, ![65, 4]⟩
abbrev S4x65536 : Shape := ⟨2, ![4, 65536]⟩
abbrev S1x16384 : Shape := ⟨2, ![1, 16384]⟩
abbrev S4x16384 : Shape := ⟨2, ![4, 16384]⟩
abbrev S1x16 : Shape := ⟨2, ![1, 16]⟩
abbrev S1x16416 : Shape := ⟨2, ![1, 16416]⟩
abbrev S5x16416 : Shape := ⟨2, ![5, 16416]⟩
abbrev S64x16416 : Shape := ⟨2, ![64, 16416]⟩
abbrev S64x16415 : Shape := ⟨2, ![64, 16415]⟩
abbrev S64x1 : Shape := ⟨2, ![64, 1]⟩
abbrev S64x16414 : Shape := ⟨2, ![64, 16414]⟩
abbrev S64x2 : Shape := ⟨2, ![64, 2]⟩
abbrev S64x16412 : Shape := ⟨2, ![64, 16412]⟩
abbrev S65x16416 : Shape := ⟨2, ![65, 16416]⟩
abbrev S1x65x64 : Shape := ⟨3, ![1, 65, 64]⟩
abbrev S65x64 : Shape := ⟨2, ![65, 64]⟩
abbrev S4x16416 : Shape := ⟨2, ![4, 16416]⟩
abbrev S1x1x65536 : Shape := ⟨3, ![1, 1, 65536]⟩
abbrev S1x1x1 : Shape := ⟨3, ![1, 1, 1]⟩

abbrev nBuf : Space → Nat
  | .hbm => 55
  | .vmem => 27
  | .smem => 0
  | _ => 0

abbrev bufTy : (tb : Table) → Fin (tcTables nBuf tb) → BufTy
  | .hbm, ⟨0, _⟩ => ⟨S256x256, .f32⟩
  | .hbm, ⟨1, _⟩ => ⟨S4x64, .f32⟩
  | .hbm, ⟨2, _⟩ => ⟨S64, .f32⟩
  | .hbm, ⟨3, _⟩ => ⟨S4x64x64, .f32⟩
  | .hbm, ⟨4, _⟩ => ⟨S4x64, .f32⟩
  | .hbm, ⟨5, _⟩ => ⟨S64x4, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S2x524288, .i32⟩
  | .hbm, ⟨10, _⟩ => ⟨S1, .f32⟩
  | .hbm, ⟨11, _⟩ => ⟨S1, .f32⟩
  | .hbm, ⟨12, _⟩ => ⟨S2, .f32⟩
  | .hbm, ⟨13, _⟩ => ⟨S2x1, .f32⟩
  | .hbm, ⟨14, _⟩ => ⟨S256x256, .i32⟩
  | .hbm, ⟨15, _⟩ => ⟨S256x256, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S256x256, .i32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S1x65536, .f32⟩
  | .hbm, ⟨46, _⟩ => ⟨S1x65536, .f32⟩
  | .hbm, ⟨47, _⟩ => ⟨S1x64, .f32⟩
  | .hbm, ⟨48, _⟩ => ⟨S5x64, .f32⟩
  | .hbm, ⟨49, _⟩ => ⟨S4x1x64, .f32⟩
  | .hbm, ⟨50, _⟩ => ⟨S4x65x64, .f32⟩
  | .hbm, ⟨51, _⟩ => ⟨S1x4, .f32⟩
  | .hbm, ⟨52, _⟩ => ⟨S65x4, .f32⟩
  | .hbm, ⟨53, _⟩ => ⟨S4x65536, .f32⟩
  | .hbm, ⟨54, _⟩ => ⟨S4x65536, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S2x1, .f32⟩
  | .local _ .vmem, ⟨6, _⟩ => ⟨S256x256, .f32⟩
  | .local _ .vmem, ⟨7, _⟩ => ⟨S256x256, .f32⟩
  | .local _ .vmem, ⟨8, _⟩ => ⟨S1x16384, .f32⟩
  | .local _ .vmem, ⟨9, _⟩ => ⟨S1x16384, .f32⟩
  | .local _ .vmem, ⟨10, _⟩ => ⟨S1x16384, .f32⟩
  | .local _ .vmem, ⟨11, _⟩ => ⟨S1x16384, .f32⟩
  | .local _ .vmem, ⟨12, _⟩ => ⟨S1x16384, .f32⟩
  | .local _ .vmem, ⟨13, _⟩ => ⟨S1x16384, .f32⟩
  | .local _ .vmem, ⟨14, _⟩ => ⟨S1x16384, .f32⟩
  | .local _ .vmem, ⟨15, _⟩ => ⟨S1x16384, .f32⟩
  | .local _ .vmem, ⟨16, _⟩ => ⟨S1x16384, .f32⟩
  | .local _ .vmem, ⟨17, _⟩ => ⟨S1x16384, .f32⟩
  | .local _ .vmem, ⟨18, _⟩ => ⟨S1x16384, .f32⟩
  | .local _ .vmem, ⟨19, _⟩ => ⟨S1x16384, .f32⟩
  | .local _ .vmem, ⟨20, _⟩ => ⟨S5x64, .f32⟩
  | .local _ .vmem, ⟨21, _⟩ => ⟨S4x65x64, .f32⟩
  | .local _ .vmem, ⟨22, _⟩ => ⟨S65x4, .f32⟩
  | .local _ .vmem, ⟨23, _⟩ => ⟨S4x16384, .f32⟩
  | .local _ .vmem, ⟨24, _⟩ => ⟨S4x16384, .f32⟩
  | .local _ .vmem, ⟨25, _⟩ => ⟨S4x65536, .f32⟩
  | .local _ .vmem, ⟨26, _⟩ => ⟨S4x65536, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_cst_3 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc2_stg0_0 : Ref sig .tc := ⟨.vmem, 25, rfl⟩
abbrev cc2_stg1_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev cc2_sem0_0 : DmaSem sig := 25
abbrev cc2_sem1_0 : DmaSem sig := 26

abbrev nD : Nat := 1
abbrev τ : Topo := Topo.v7x

variable {F : FTy → Type} [FloatOps F]

abbrev grid0 : Pipeline.Grid := .none

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c1_i32 : BitVec 32 := 1#32
  let v0 : BitVec 32 := Scalar.subi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x16384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S5x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x65x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S65x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4x16384 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := .none

abbrev stage2_0 : Fin 1 → Memref sig .tc .vmem S4x65536 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x65536 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== KernelIdeal.lean ====
variable {F : FTy → Type} [FloatOps F] [Named F]
def κ : String → Option EReal := fun
  | "degree" => some ((70368752973757 / 8796093022208 : ℝ) : EReal)
  | _ => none
-- ==== ReferenceIdeal.lean ====
abbrev S256x256 : Shape := ⟨2, ![256, 256]⟩
abbrev S4x64 : Shape := ⟨2, ![4, 64]⟩
abbrev S64 : Shape := ⟨1, ![64]⟩
abbrev S4x64x64 : Shape := ⟨3, ![4, 64, 64]⟩
abbrev S64x4 : Shape := ⟨2, ![64, 4]⟩
abbrev S4 : Shape := ⟨1, ![4]⟩
abbrev S_ : Shape := ⟨0, ![]⟩
abbrev S2x524288 : Shape := ⟨2, ![2, 524288]⟩
abbrev S65536 : Shape := ⟨1, ![65536]⟩
abbrev S65536x65536 : Shape := ⟨2, ![65536, 65536]⟩
abbrev S65536x1 : Shape := ⟨2, ![65536, 1]⟩
abbrev S65536x4 : Shape := ⟨2, ![65536, 4]⟩
abbrev S65536x64 : Shape := ⟨2, ![65536, 64]⟩
abbrev S1x64 : Shape := ⟨2, ![1, 64]⟩
abbrev S1x524288 : Shape := ⟨2, ![1, 524288]⟩
abbrev S524288 : Shape := ⟨1, ![524288]⟩
abbrev S524288x1 : Shape := ⟨2, ![524288, 1]⟩
abbrev S524288x64 : Shape := ⟨2, ![524288, 64]⟩
abbrev S1x64x64 : Shape := ⟨3, ![1, 64, 64]⟩
abbrev S64x64 : Shape := ⟨2, ![64, 64]⟩
abbrev S1x4 : Shape := ⟨2, ![1, 4]⟩
abbrev S1x65536 : Shape := ⟨2, ![1, 65536]⟩
abbrev S4x65536 : Shape := ⟨2, ![4, 65536]⟩

abbrev nBuf : Space → Nat
  | .hbm => 253
  | .vmem => 0
  | .smem => 0
  | _ => 0

abbrev hbmTy0_0 (i : Nat) : BufTy := match i % 128 with
  | 0 => ⟨S256x256, .f32⟩
  | 1 => ⟨S4x64, .f32⟩
  | 2 => ⟨S64, .f32⟩
  | 3 => ⟨S4x64x64, .f32⟩
  | 4 => ⟨S4x64, .f32⟩
  | 5 => ⟨S64x4, .f32⟩
  | 6 => ⟨S4, .f32⟩
  | 7 => ⟨S_, .f32⟩
  | 8 => ⟨S_, .f32⟩
  | 9 => ⟨S2x524288, .i32⟩
  | 10 => ⟨S65536, .f32⟩
  | 11 => ⟨S65536x65536, .i32⟩
  | 12 => ⟨S65536x65536, .i32⟩
  | 13 => ⟨S_, .f32⟩
  | 14 => ⟨S_, .f32⟩
  | 15 => ⟨S_, .f32⟩
  | 16 => ⟨S_, .f32⟩
  | 17 => ⟨S_, .f32⟩
  | 18 => ⟨S65536x65536, .i32⟩
  | 19 => ⟨S_, .i32⟩
  | 20 => ⟨S65536x65536, .i32⟩
  | 21 => ⟨S65536x65536, .i32⟩
  | 22 => ⟨S65536x65536, .f32⟩
  | 23 => ⟨S65536x65536, .f32⟩
  | 24 => ⟨S65536x65536, .f32⟩
  | 25 => ⟨S65536x65536, .f32⟩
  | 26 => ⟨S65536, .f32⟩
  | 27 => ⟨S65536x65536, .f32⟩
  | 28 => ⟨S65536, .f32⟩
  | 29 => ⟨S65536, .f32⟩
  | 30 => ⟨S65536, .f32⟩
  | 31 => ⟨S65536, .f32⟩
  | 32 => ⟨S65536, .f32⟩
  | 33 => ⟨S65536, .f32⟩
  | 34 => ⟨S65536, .f32⟩
  | 35 => ⟨S65536, .f32⟩
  | 36 => ⟨S65536, .f32⟩
  | 37 => ⟨S_, .f32⟩
  | 38 => ⟨S65536, .f32⟩
  | 39 => ⟨S65536, .f32⟩
  | 40 => ⟨S65536, .f32⟩
  | 41 => ⟨S65536, .f32⟩
  | 42 => ⟨S65536x1, .f32⟩
  | 43 => ⟨S65536x1, .f32⟩
  | 44 => ⟨S65536x1, .f32⟩
  | 45 => ⟨S65536x1, .f32⟩
  | 46 => ⟨S65536x4, .f32⟩
  | 47 => ⟨S65536x64, .f32⟩
  | 48 => ⟨S1x64, .f32⟩
  | 49 => ⟨S65536x64, .f32⟩
  | 50 => ⟨S65536x64, .f32⟩
  | 51 => ⟨S_, .f32⟩
  | 52 => ⟨S65536x64, .f32⟩
  | 53 => ⟨S65536x64, .f32⟩
  | 54 => ⟨S1x524288, .i32⟩
  | 55 => ⟨S524288, .i32⟩
  | 56 => ⟨S1x524288, .i32⟩
  | 57 => ⟨S524288, .i32⟩
  | 58 => ⟨S_, .f32⟩
  | 59 => ⟨S524288, .f32⟩
  | 60 => ⟨S_, .f32⟩
  | 61 => ⟨S65536, .f32⟩
  | 62 => ⟨S524288x1, .i32⟩
  | 63 => ⟨S65536, .f32⟩
  | 64 => ⟨S_, .i32⟩
  | 65 => ⟨S524288, .i32⟩
  | 66 => ⟨S524288, .i1⟩
  | 67 => ⟨S_, .i32⟩
  | 68 => ⟨S524288, .i32⟩
  | 69 => ⟨S524288, .i32⟩
  | 70 => ⟨S524288, .i32⟩
  | 71 => ⟨S524288x1, .i32⟩
  | 72 => ⟨S524288x64, .f32⟩
  | 73 => ⟨S_, .f32⟩
  | 74 => ⟨S65536x64, .f32⟩
  | 75 => ⟨S524288x1, .i32⟩
  | 76 => ⟨S65536x64, .f32⟩
  | 77 => ⟨S65536x1, .f32⟩
  | 78 => ⟨S_, .f32⟩
  | 79 => ⟨S65536x1, .f32⟩
  | 80 => ⟨S65536x1, .f32⟩
  | 81 => ⟨S65536x64, .f32⟩
  | 82 => ⟨S65536x64, .f32⟩
  | 83 => ⟨S1x64x64, .f32⟩
  | 84 => ⟨S64x64, .f32⟩
  | 85 => ⟨S65536x64, .f32⟩
  | 86 => ⟨S1x64, .f32⟩
  | 87 => ⟨S64, .f32⟩
  | 88 => ⟨S1x64, .f32⟩
  | 89 => ⟨S65536x64, .f32⟩
  | 90 => ⟨S65536x64, .f32⟩
  | 91 => ⟨S_, .f32⟩
  | 92 => ⟨S65536x64, .f32⟩
  | 93 => ⟨S65536x64, .f32⟩
  | 94 => ⟨S65536x64, .f32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x64, .f32⟩
  | 104 => ⟨S_, .f32⟩
  | 105 => ⟨S65536x64, .f32⟩
  | 106 => ⟨S524288x1, .i32⟩
  | 107 => ⟨S65536x64, .f32⟩
  | 108 => ⟨S65536x1, .f32⟩
  | 109 => ⟨S_, .f32⟩
  | 110 => ⟨S65536x1, .f32⟩
  | 111 => ⟨S65536x1, .f32⟩
  | 112 => ⟨S65536x64, .f32⟩
  | 113 => ⟨S65536x64, .f32⟩
  | 114 => ⟨S1x64x64, .f32⟩
  | 115 => ⟨S64x64, .f32⟩
  | 116 => ⟨S65536x64, .f32⟩
  | 117 => ⟨S1x64, .f32⟩
  | 118 => ⟨S64, .f32⟩
  | 119 => ⟨S1x64, .f32⟩
  | 120 => ⟨S65536x64, .f32⟩
  | 121 => ⟨S65536x64, .f32⟩
  | 122 => ⟨S_, .f32⟩
  | 123 => ⟨S65536x64, .f32⟩
  | 124 => ⟨S65536x64, .f32⟩
  | 125 => ⟨S65536x64, .f32⟩
  | 126 => ⟨S_, .i32⟩
  | 127 => ⟨S524288, .i32⟩
  | _ => ⟨S256x256, .f32⟩

abbrev hbmTy0_1 (i : Nat) : BufTy := match i % 128 with
  | 0 => ⟨S524288, .i1⟩
  | 1 => ⟨S_, .i32⟩
  | 2 => ⟨S524288, .i32⟩
  | 3 => ⟨S524288, .i32⟩
  | 4 => ⟨S524288, .i32⟩
  | 5 => ⟨S524288x1, .i32⟩
  | 6 => ⟨S524288x64, .f32⟩
  | 7 => ⟨S_, .f32⟩
  | 8 => ⟨S65536x64, .f32⟩
  | 9 => ⟨S524288x1, .i32⟩
  | 10 => ⟨S65536x64, .f32⟩
  | 11 => ⟨S65536x1, .f32⟩
  | 12 => ⟨S_, .f32⟩
  | 13 => ⟨S65536x1, .f32⟩
  | 14 => ⟨S65536x1, .f32⟩
  | 15 => ⟨S65536x64, .f32⟩
  | 16 => ⟨S65536x64, .f32⟩
  | 17 => ⟨S1x64x64, .f32⟩
  | 18 => ⟨S64x64, .f32⟩
  | 19 => ⟨S65536x64, .f32⟩
  | 20 => ⟨S1x64, .f32⟩
  | 21 => ⟨S64, .f32⟩
  | 22 => ⟨S1x64, .f32⟩
  | 23 => ⟨S65536x64, .f32⟩
  | 24 => ⟨S65536x64, .f32⟩
  | 25 => ⟨S_, .f32⟩
  | 26 => ⟨S65536x64, .f32⟩
  | 27 => ⟨S65536x64, .f32⟩
  | 28 => ⟨S65536x64, .f32⟩
  | 29 => ⟨S_, .i32⟩
  | 30 => ⟨S524288, .i32⟩
  | 31 => ⟨S524288, .i1⟩
  | 32 => ⟨S_, .i32⟩
  | 33 => ⟨S524288, .i32⟩
  | 34 => ⟨S524288, .i32⟩
  | 35 => ⟨S524288, .i32⟩
  | 36 => ⟨S524288x1, .i32⟩
  | 37 => ⟨S524288x64, .f32⟩
  | 38 => ⟨S_, .f32⟩
  | 39 => ⟨S65536x64, .f32⟩
  | 40 => ⟨S524288x1, .i32⟩
  | 41 => ⟨S65536x64, .f32⟩
  | 42 => ⟨S65536x1, .f32⟩
  | 43 => ⟨S_, .f32⟩
  | 44 => ⟨S65536x1, .f32⟩
  | 45 => ⟨S65536x1, .f32⟩
  | 46 => ⟨S65536x64, .f32⟩
  | 47 => ⟨S65536x64, .f32⟩
  | 48 => ⟨S1x64x64, .f32⟩
  | 49 => ⟨S64x64, .f32⟩
  | 50 => ⟨S65536x64, .f32⟩
  | 51 => ⟨S1x64, .f32⟩
  | 52 => ⟨S64, .f32⟩
  | 53 => ⟨S1x64, .f32⟩
  | 54 => ⟨S65536x64, .f32⟩
  | 55 => ⟨S65536x64, .f32⟩
  | 56 => ⟨S_, .f32⟩
  | 57 => ⟨S65536x64, .f32⟩
  | 58 => ⟨S65536x64, .f32⟩
  | 59 => ⟨S65536x64, .f32⟩
  | 60 => ⟨S65536x4, .f32⟩
  | 61 => ⟨S1x4, .f32⟩
  | 62 => ⟨S65536x4, .f32⟩
  | 63 => ⟨S65536x4, .f32⟩
  | 64 => ⟨S65536x1, .f32⟩
  | 65 => ⟨S65536, .f32⟩
  | 66 => ⟨S65536x1, .f32⟩
  | 67 => ⟨S65536, .f32⟩
  | 68 => ⟨S65536, .f32⟩
  | 69 => ⟨S65536, .f32⟩
  | 70 => ⟨S65536, .f32⟩
  | 71 => ⟨S65536, .f32⟩
  | 72 => ⟨S65536, .f32⟩
  | 73 => ⟨S_, .f32⟩
  | 74 => ⟨S65536, .f32⟩
  | 75 => ⟨S65536, .f32⟩
  | 76 => ⟨S65536, .f32⟩
  | 77 => ⟨S65536, .f32⟩
  | 78 => ⟨S_, .f32⟩
  | 79 => ⟨S_, .f32⟩
  | 80 => ⟨S_, .f32⟩
  | 81 => ⟨S_, .f32⟩
  | 82 => ⟨S65536, .f32⟩
  | 83 => ⟨S65536, .f32⟩
  | 84 => ⟨S_, .f32⟩
  | 85 => ⟨S65536, .f32⟩
  | 86 => ⟨S65536, .f32⟩
  | 87 => ⟨S65536, .f32⟩
  | 88 => ⟨S65536, .f32⟩
  | 89 => ⟨S65536, .f32⟩
  | 90 => ⟨S_, .f32⟩
  | 91 => ⟨S65536, .f32⟩
  | 92 => ⟨S65536, .f32⟩
  | 93 => ⟨S65536, .f32⟩
  | 94 => ⟨S65536, .f32⟩
  | 95 => ⟨S_, .f32⟩
  | 96 => ⟨S65536, .f32⟩
  | 97 => ⟨S65536, .f32⟩
  | 98 => ⟨S_, .f32⟩
  | 99 => ⟨S65536, .f32⟩
  | 100 => ⟨S65536, .f32⟩
  | 101 => ⟨S_, .f32⟩
  | 102 => ⟨S65536, .f32⟩
  | 103 => ⟨S65536, .f32⟩
  | 104 => ⟨S65536, .f32⟩
  | 105 => ⟨S65536, .f32⟩
  | 106 => ⟨S65536, .f32⟩
  | 107 => ⟨S_, .f32⟩
  | 108 => ⟨S65536, .f32⟩
  | 109 => ⟨S65536, .f32⟩
  | 110 => ⟨S_, .f32⟩
  | 111 => ⟨S65536, .f32⟩
  | 112 => ⟨S65536, .f32⟩
  | 113 => ⟨S_, .f32⟩
  | 114 => ⟨S65536, .f32⟩
  | 115 => ⟨S65536, .f32⟩
  | 116 => ⟨S65536, .f32⟩
  | 117 => ⟨S65536, .f32⟩
  | 118 => ⟨S65536, .f32⟩
  | 119 => ⟨S65536, .f32⟩
  | 120 => ⟨S1x65536, .f32⟩
  | 121 => ⟨S1x65536, .f32⟩
  | 122 => ⟨S1x65536, .f32⟩
  | 123 => ⟨S1x65536, .f32⟩
  | 124 => ⟨S4x65536, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_11 : Ref sig .tc := ⟨.hbm, 95, rfl⟩
abbrev main_v72 : Ref sig .tc := ⟨.hbm, 96, rfl⟩
abbrev main_v73 : Ref sig .tc := ⟨.hbm, 97, rfl⟩
abbrev main_c_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_c_16 : Ref sig .tc := ⟨.hbm, 126, rfl⟩
abbrev main_v98 : Ref sig .tc := ⟨.hbm, 127, rfl⟩
abbrev main_v99 : Ref sig .tc := ⟨.hbm, 128, rfl⟩
abbrev main_c_17 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_18 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_19 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_20 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_c_21 : Ref sig .tc := ⟨.hbm, 157, rfl⟩
abbrev main_v124 : Ref sig .tc := ⟨.hbm, 158, rfl⟩
abbrev main_v125 : Ref sig .tc := ⟨.hbm, 159, rfl⟩
abbrev main_c_22 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_23 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_24 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_25 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_26 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_27 : Ref sig .tc := ⟨.hbm, 206, rfl⟩
abbrev main_v167 : Ref sig .tc := ⟨.hbm, 207, rfl⟩
abbrev main_cst_28 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_cst_29 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_30 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_31 : Ref sig .tc := ⟨.hbm, 223, rfl⟩
abbrev main_v180 : Ref sig .tc := ⟨.hbm, 224, rfl⟩
abbrev main_v181 : Ref sig .tc := ⟨.hbm, 225, rfl⟩
abbrev main_cst_32 : Ref sig .tc := ⟨.hbm, 226, rfl⟩
abbrev main_v182 : Ref sig .tc := ⟨.hbm, 227, rfl⟩
abbrev main_v183 : Ref sig .tc := ⟨.hbm, 228, rfl⟩
abbrev main_cst_33 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_cst_34 : Ref sig .tc := ⟨.hbm, 235, rfl⟩
abbrev main_v189 : Ref sig .tc := ⟨.hbm, 236, rfl⟩
abbrev main_v190 : Ref sig .tc := ⟨.hbm, 237, rfl⟩
abbrev main_cst_35 : Ref sig .tc := ⟨.hbm, 238, rfl⟩
abbrev main_v191 : Ref sig .tc := ⟨.hbm, 239, rfl⟩
abbrev main_v192 : Ref sig .tc := ⟨.hbm, 240, rfl⟩
abbrev main_cst_36 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩

abbrev nD : Nat := 1
abbrev τ : Topo := Topo.v7x

variable {F : FTy → Type} [FloatOps F]
-- ==== Proof.Frames.lean ====
/- The claims that say nothing of values: each program ends with its arguments unchanged and every counter at zero,
   and the idealized kernel differs from the kernel in the one named constant. -/
module

public import proofs.«01_k».proof.Defs
public import proofs.«01_k».proof.Proof.Gen.Kernel.Frame
public import proofs.«01_k».proof.Proof.Gen.KernelIdeal.Frame
public import proofs.«01_k».proof.Proof.Gen.Pre_ring_of_finite
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel as compiled ends with its arguments unchanged. -/
theorem frame_kernel : quiescent_Kernel (hKernel := Cert.Kernel.Gen.facts) :=
  fun m g _ => Cert.Kernel.Gen.frame m g

/-- The idealized kernel ends with its arguments unchanged. -/
theorem frame_kernelIdeal : quiescent_KernelIdeal (hKernelIdeal := Cert.KernelIdeal.Gen.facts) :=
  fun m g _ => Cert.KernelIdeal.Gen.frame m g

/-- The same under the precondition. -/
theorem frame_kernelIdeal_pre : quiescent_KernelIdeal_pre_ring_of_finite
    (hKernelIdeal := Cert.KernelIdeal.Gen.facts) (hPre_ring_of_finite := Cert.Pre_ring_of_finite.Gen.facts) :=
  fun m g _ => Cert.KernelIdeal.Gen.frame m g

/-- The reference ends with its arguments unchanged. -/
theorem frame_reference : quiescent_ReferenceIdeal (hReferenceIdeal := Cert.ReferenceIdeal.Gen.facts) :=
  fun m g _ => (θ_run Cert.ReferenceIdeal.defs _ _).mono
    (fun r h => ⟨fun c => (h c).2, sem_eq_zero_of_no_sems rfl r.2⟩) (Cert.ReferenceIdeal.Value.run m g)

/-- The same under the precondition. -/
theorem frame_reference_pre : quiescent_ReferenceIdeal_pre_ring_of_finite
    (hReferenceIdeal := Cert.ReferenceIdeal.Gen.facts) (hPre_ring_of_finite := Cert.Pre_ring_of_finite.Gen.facts) :=
  fun m g _ => frame_reference m g trivial

/-- The named divisor stands in the idealized kernel for the constant of the kernel. -/
theorem preserves : preserves_Kernel_KernelIdeal :=
  IdealRules.named_const.statement Cert.KernelIdeal.κ "degree" .f32 0x41000001#32 ((70368752973757 / 8796093022208 : ℝ) : EReal) rfl

end Cert.Proof

end
-- ==== Proof.Model.lean ====
/- What the network computes, written over plain indices: the spectrum as two rows of 65536 numbers, the message passing
   network on the ring of 65536 nodes, and the quantiser of the residual spectrum in polar form. -/
module

public import Idealize.ShloMosaic.PureOps.Ideal

@[expose] public section

noncomputable section

namespace Cert.Proof

open Idealize.ShloMosaic

/-- One number per node of the ring. -/
abbrev Row := Fin 65536 → EReal

/-- The node `d` steps further along the ring. -/
def sh (i : Fin 65536) (d : ℕ) : Fin 65536 := ⟨(i.1 + d) % 65536, Nat.mod_lt _ (by decide)⟩

/-- The weights and biases of the network. -/
structure Net where
  wi : Fin 4 → Fin 64 → EReal
  bi : Fin 64 → EReal
  wl : Fin 4 → Fin 64 → Fin 64 → EReal
  bl : Fin 4 → Fin 64 → EReal
  wo : Fin 64 → Fin 4 → EReal
  bo : Fin 4 → EReal

/-- The f32 constant nearest `1e-12`. -/
def tiny : EReal := Ideal.ofBits .f32 0x2B8CBCCC#32

/-- The divisor of a node's neighbour sum: the in-degree 8 and the f32 constant nearest `1e-6`. -/
def degree : EReal := ((70368752973757 / 8796093022208 : ℝ) : EReal)

/-- The modulus of `x + i y`, kept away from zero. -/
def modulus (x y : EReal) : EReal := Ideal.sqrt (x * x + y * y + tiny)

/-- The four features of a node. -/
def feat (x y : EReal) : Fin 4 → EReal := ![x, y, modulus x y, Ideal.atan2 y x]

/-- A weighted sum of `n` numbers and a bias. -/
def dense {n m : ℕ} (w : Fin n → Fin m → EReal) (b : Fin m → EReal) (x : Fin n → EReal) (o : Fin m) : EReal :=
  (∑ k, x k * w k o) + b o

/-- The sum over the eight neighbours of node `i`: four behind it and four ahead. -/
def around (h : Fin 65536 → Fin 64 → EReal) (i : Fin 65536) (k : Fin 64) : EReal :=
  (h (sh i 65532) k + h (sh i 65533) k + (h (sh i 65534) k + h (sh i 65535) k))
    + (h (sh i 1) k + h (sh i 2) k + (h (sh i 3) k + h (sh i 4) k))

/-- The first hidden state. -/
def hid0 (p : Net) (hr hi : Row) (i : Fin 65536) (o : Fin 64) : EReal :=
  max (dense p.wi p.bi (feat (hr i) (hi i)) o) 0

/-- One step of message passing. -/
def layer (p : Net) (l : Fin 4) (h : Fin 65536 → Fin 64 → EReal) (i : Fin 65536) (o : Fin 64) : EReal :=
  max (dense (p.wl l) (p.bl l) (fun k => Ideal.div (around h i k) degree) o) 0 + h i o

/-- The hidden state after the four steps. -/
def hid4 (p : Net) (hr hi : Row) : Fin 65536 → Fin 64 → EReal :=
  layer p 3 (layer p 2 (layer p 1 (layer p 0 (hid0 p hr hi))))

/-- The network's prediction at a node. -/
def pred (p : Net) (hr hi : Row) (i : Fin 65536) (o : Fin 4) : EReal := dense p.wo p.bo (hid4 p hr hi i) o

/-- The residual spectrum and its prediction: the four rows the quantiser reads. -/
def resid (p : Net) (hr hi : Row) : Fin 4 → Row :=
  ![fun i => hr i - pred p hr hi i 0, fun i => hi i - pred p hr hi i 1, fun i => pred p hr hi i 0,
    fun i => pred p hr hi i 1]

/-- The largest of the numbers of a row. -/
def top (a : Row) : EReal := Finset.univ.sup a

/-- The largest modulus of a residual, kept away from zero. -/
def scale (x y : Row) : EReal := top (fun i => modulus (x i) (y i)) + Ideal.ofBits .f32 0x322BCC77#32

/-- Rounding to the nearest whole number, ties to the even one. -/
def rnd (x : EReal) : EReal := Ideal.liftRound Ideal.roundHalfEven x

/-- A modulus `a` rounded to one of the sixteen levels between 0 and `s`. -/
def quantAmp (s a : EReal) : EReal :=
  Ideal.div (rnd (Ideal.div a s * Ideal.ofBits .f32 0x41700000#32)) (Ideal.ofBits .f32 0x41700000#32) * s

/-- The number whose rounding is the level of a phase. -/
def phaseLevel (t : EReal) : EReal :=
  Ideal.div (t + Ideal.ofBits .f32 0x40490FDB#32) (Ideal.ofBits .f32 0x40C90FDB#32) * Ideal.ofBits .f32 0x437F0000#32

/-- A phase rounded to one of the 256 levels. -/
def quantPhase (t : EReal) : EReal :=
  Ideal.div (rnd (phaseLevel t)) (Ideal.ofBits .f32 0x437F0000#32) * Ideal.ofBits .f32 0x40C90FDB#32
    - Ideal.ofBits .f32 0x40490FDB#32

/-- The four rows of the result, from the residual rows `x`, `y` and the predicted rows `u`, `v`. -/
def quant (d : Fin 4 → Row) : Fin 4 → Row :=
  ![fun i => quantAmp (scale (d 0) (d 1)) (modulus (d 0 i) (d 1 i)) * Ideal.cos (quantPhase (Ideal.atan2 (d 1 i) (d 0 i))),
    fun i => quantAmp (scale (d 0) (d 1)) (modulus (d 0 i) (d 1 i)) * Ideal.sin (quantPhase (Ideal.atan2 (d 1 i) (d 0 i))),
    d 2, d 3]

end Cert.Proof

end
-- ==== Proof.Graph.lean ====
/- The ring of 65536 nodes, each the source of eight edges: what a gather along the edges' sources reads, and what a sum
   scattered to the edges' targets gathers at a node. -/
module

public import proofs.«01_k».proof.Proof.Gen.ReferenceIdeal
public import proofs.«01_k».proof.Proof.Model
public import Idealize.ShloMosaic.Lib.Routing.Ops
public import Idealize.ShloMosaic.Lib.Routing.OpsPair
public import Idealize.ShloMosaic.Lib.Pointwise

@[expose] public section

set_option maxRecDepth 16384

noncomputable section

namespace Cert.Proof.Graph

open Idealize.ShloMosaic Cert.ReferenceIdeal Cert.ReferenceIdeal.Gen

/-- How far along the ring edge `q` of a node leads: four back to one back, then one ahead to four ahead. -/
def fwd (q : ℕ) : ℕ := if q < 4 then 65532 + q else q - 3

/-- How far along the ring the source of edge `q` lies from its target. -/
def bwd (q : ℕ) : ℕ := if q < 4 then 4 - q else 65539 - q

/-- The target of edge `e`. -/
def dst (e : ℕ) : ℕ := (e / 8 + fwd (e % 8)) % 65536

/-- The edge `q` that leads to node `i`. -/
def edge (i : Fin 65536) (q : Fin 8) : Fin 524288 := ⟨8 * (sh i (bwd q.1)).1 + q.1, by
  have := (sh i (bwd q.1)).2
  omega⟩

/-- The source of the edge `q` that leads to node `i`. -/
theorem edge_src (i : Fin 65536) (q : Fin 8) : (edge i q).1 / 8 = (sh i (bwd q.1)).1 := by
  show (8 * (sh i (bwd q.1)).1 + q.1) / 8 = _
  omega

/-- A sum over the edges that lead to a node is over eight of them. -/
theorem sum_edges (f : Fin 524288 → EReal) (i : Fin 65536) :
    ∑ e ∈ Finset.univ.filter (fun e : Fin 524288 => dst e.1 = i.1), f e = ∑ q, f (edge i q) := by
  refine Finset.sum_nbij' (fun e => ⟨e.1 % 8, by omega⟩) (fun q => edge i q) ?_ ?_ ?_ ?_ ?_
  · intro e _
    exact Finset.mem_univ _
  · intro q _
    rw [Finset.mem_filter]
    refine ⟨Finset.mem_univ _, ?_⟩
    have hi := i.2
    simp only [dst, edge, sh, fwd, bwd]
    fin_cases q <;> dsimp only <;> split_ifs <;> omega
  · intro e he
    rw [Finset.mem_filter] at he
    have h := he.2
    have hi := i.2
    have he := e.2
    refine Fin.ext ?_
    simp only [dst, edge, sh, fwd, bwd] at h ⊢
    split_ifs at h ⊢ <;> omega
  · intro q _
    refine Fin.ext ?_
    show (8 * (sh i (bwd q.1)).1 + q.1) % 8 = q.1
    omega
  · intro e he
    rw [Finset.mem_filter] at he
    have h := he.2
    have hi := i.2
    have he := e.2
    refine congrArg f (Fin.ext ?_)
    simp only [dst, edge, sh, fwd, bwd] at h ⊢
    split_ifs at h ⊢ <;> omega

/-- The word of a small number, read signed. -/
theorem toInt_word (n : ℕ) (h : n < 2 ^ 31) : (BitVec.ofNat 32 n).toInt = (n : ℤ) := by
  rw [BitVec.toInt_eq_toNat_of_lt] <;> rw [BitVec.toNat_ofNat, Nat.mod_eq_of_lt (by omega)]
  omega

/-- Numbers scattered to the edges' targets: a node receives those of its eight edges. -/
theorem scatter_vec (x : FVec Ideal S65536 .f32) (idx : IVec S524288x1 32) (u : FVec Ideal S524288 .f32)
    (h : ∀ e : Fin 524288, idx (ix2 e 0) = BitVec.ofNat 32 (dst e.1)) (i : Fin 65536) :
    Host.scatterAdd scatter_S65536_S524288x1_S524288_n_0_0_1 x idx u (ix1 i) = x (ix1 i) + ∑ q, u (ix1 (edge i q)) := by
  have lands : ∀ j, scatter_S65536_S524288x1_S524288_n_0_0_1.resultIdx? j idx = some (ix1 i) ↔ dst (j 0).1 = i.1 := by
    intro j
    obtain ⟨e, rfl⟩ : ∃ e, j = ix1 e := ⟨j 0, eq_ix1 j⟩
    have s0 : scatter_S65536_S524288x1_S524288_n_0_0_1.start (ix1 e) idx 0 = (idx (ix2 e 0)).toInt := by
      refine (dif_pos (List.mem_singleton.mpr rfl)).trans (congrArg _ (congrArg idx ?_))
      funext b
      refine Fin.ext ?_
      match b with
      | ⟨0, _⟩ => rfl
      | ⟨1, _⟩ => rfl
    have w0 : scatter_S65536_S524288x1_S524288_n_0_0_1.window (ix1 e) 0 = 0 := by
      exact dif_neg (by decide)
    have hx : (ix1 i : S65536.Idx) = ValueIdx.ix1 i := by
      funext b
      match b with
      | ⟨0, _⟩ => rfl
    have key := Routing.resultIdx?_ix1 scatter_S65536_S524288x1_S524288_n_0_0_1 (ix1 e) idx i
    rw [s0, w0, h, toInt_word _ (by unfold dst; omega)] at key
    rw [hx]
    refine key.trans ⟨fun hk => ?_, fun hk => ?_⟩
    · rw [ix1_0]
      omega
    · rw [ix1_0] at hk
      omega
  show x (ix1 i) + ∑ j ∈ Finset.univ.filter
    (fun j => scatter_S65536_S524288x1_S524288_n_0_0_1.resultIdx? j idx = some (ix1 i)), u j = _
  refine congrArg _ ((Finset.sum_nbij' (fun j => j 0) (fun e => ix1 e) ?_ ?_ ?_ ?_ ?_).trans (sum_edges (fun e => u (ix1 e)) i))
  · intro j hj
    exact Finset.mem_filter.mpr ⟨Finset.mem_univ _, (lands j).mp (Finset.mem_filter.mp hj).2⟩
  · intro e he
    exact Finset.mem_filter.mpr ⟨Finset.mem_univ _, (lands _).mpr (Finset.mem_filter.mp he).2⟩
  · intro j _
    exact (eq_ix1 j).symm
  · intro e _
    rfl
  · intro j _
    exact congrArg u (eq_ix1 j)

/-- Rows scattered to the edges' targets: a node receives those of its eight edges. -/
theorem scatter_rows (x : FVec Ideal S65536x64 .f32) (idx : IVec S524288x1 32) (u : FVec Ideal S524288x64 .f32)
    (h : ∀ e : Fin 524288, idx (ix2 e 0) = BitVec.ofNat 32 (dst e.1)) (i : Fin 65536) (o : Fin 64) :
    Host.scatterAdd scatter_S65536x64_S524288x1_S524288x64_1_0_0_1 x idx u (ix2 i o)
      = x (ix2 i o) + ∑ q, u (ix2 (edge i q) o) := by
  have lands : ∀ j, scatter_S65536x64_S524288x1_S524288x64_1_0_0_1.resultIdx? j idx = some (ix2 i o)
      ↔ dst (j 0).1 = i.1 ∧ j 1 = o := by
    intro j
    obtain ⟨e, p, rfl⟩ : ∃ e p, j = ix2 e p := ⟨j 0, j 1, eq_ix2 j⟩
    have s0 : scatter_S65536x64_S524288x1_S524288x64_1_0_0_1.start (ix2 e p) idx 0 = (idx (ix2 e 0)).toInt := by
      refine (dif_pos (List.mem_singleton.mpr rfl)).trans (congrArg _ (congrArg idx ?_))
      funext b
      refine Fin.ext ?_
      match b with
      | ⟨0, _⟩ => rfl
      | ⟨1, _⟩ => rfl
    have s1 : scatter_S65536x64_S524288x1_S524288x64_1_0_0_1.start (ix2 e p) idx 1 = 0 := by
      exact dif_neg (by decide)
    have w0 : scatter_S65536x64_S524288x1_S524288x64_1_0_0_1.window (ix2 e p) 0 = 0 := by
      exact dif_neg (by decide)
    have w1 : scatter_S65536x64_S524288x1_S524288x64_1_0_0_1.window (ix2 e p) 1 = p.1 := by
      exact dif_pos (by decide)
    have key := Routing.resultIdx?_ix2 scatter_S65536x64_S524288x1_S524288x64_1_0_0_1 (ix2 e p) idx i o
    rw [s0, s1, w0, w1, h, toInt_word _ (by unfold dst; omega)] at key
    have hx : (ix2 i o : S65536x64.Idx) = ValueIdx.ix2 i o := by
      funext b
      match b with
      | ⟨0, _⟩ => rfl
      | ⟨1, _⟩ => rfl
    rw [hx]
    rw [ix2_0, ix2_1]
    refine key.trans ⟨fun hk => ⟨by omega, Fin.ext (by omega)⟩, fun hk => ⟨by omega, ?_⟩⟩
    rw [hk.2]
    omega
  show x (ix2 i o) + ∑ j ∈ Finset.univ.filter
    (fun j => scatter_S65536x64_S524288x1_S524288x64_1_0_0_1.resultIdx? j idx = some (ix2 i o)), u j = _
  refine congrArg _ ((Finset.sum_nbij' (fun j => j 0) (fun e => ix2 e o) ?_ ?_ ?_ ?_ ?_).trans
    (sum_edges (fun e => u (ix2 e o)) i))
  · intro j hj
    exact Finset.mem_filter.mpr ⟨Finset.mem_univ _, ((lands j).mp (Finset.mem_filter.mp hj).2).1⟩
  · intro e he
    exact Finset.mem_filter.mpr ⟨Finset.mem_univ _, (lands _).mpr ⟨(Finset.mem_filter.mp he).2, rfl⟩⟩
  · intro j hj
    have hj := ((lands j).mp (Finset.mem_filter.mp hj).2).2
    rw [← hj]
    exact (eq_ix2 j).symm
  · intro e _
    rfl
  · intro j hj
    have hj := ((lands j).mp (Finset.mem_filter.mp hj).2).2
    rw [← hj]
    exact congrArg u (eq_ix2 j)

/-- A row gathered along an edge is its source's row. -/
theorem gather_src (x : FVec Ideal S65536x64 .f32) (idx : IVec S524288x1 32)
    (h : ∀ e : Fin 524288, idx (ix2 e 0) = BitVec.ofNat 32 (e.1 / 8)) (e : Fin 524288) (o : Fin 64) (i : Fin 65536)
    (hi : e.1 / 8 = i.1) :
    Host.gather gather_S65536x64_S524288x1_S524288x64_1_0_n_n_0_1_164 x idx (ix2 e o) = x (ix2 i o) := by
  have hx : ∀ {a b : ℕ} (p : Fin a) (q : Fin b), (ix2 p q : (⟨2, ![a, b]⟩ : Shape).Idx) = ValueIdx.ix2 p q := by
    intro a b p q
    funext b
    match b with
    | ⟨0, _⟩ => rfl
    | ⟨1, _⟩ => rfl
  have key := Routing.gather_row gather_S65536x64_S524288x1_S524288x64_1_0_n_n_0_1_164 rfl rfl rfl rfl rfl x idx e o i
    (by rw [← hx, ← hi]; exact h e) (by norm_num)
  rw [← hx, ← hx] at key
  exact key

/-- The rows of the sources, summed at the targets: the eight neighbours' rows. -/
theorem neighbours (x z : FVec Ideal S65536x64 .f32) (si di : IVec S524288x1 32) (hz : ∀ i o, z (ix2 i o) = 0)
    (hs : ∀ e : Fin 524288, si (ix2 e 0) = BitVec.ofNat 32 (e.1 / 8))
    (hd : ∀ e : Fin 524288, di (ix2 e 0) = BitVec.ofNat 32 (dst e.1)) (i : Fin 65536) (o : Fin 64) :
    Host.scatterAdd scatter_S65536x64_S524288x1_S524288x64_1_0_0_1 z di
      (Host.gather gather_S65536x64_S524288x1_S524288x64_1_0_n_n_0_1_164 x si) (ix2 i o)
      = around (fun i o => x (ix2 i o)) i o := by
  rw [scatter_rows _ _ _ hd, hz, zero_add]
  rw [Finset.sum_congr rfl fun q _ => gather_src x si hs (edge i q) o (sh i (bwd q.1)) (edge_src i q)]
  rw [Fin.sum_univ_eight]
  show x (ix2 (sh i 4) o) + x (ix2 (sh i 3) o) + x (ix2 (sh i 2) o) + x (ix2 (sh i 1) o) + x (ix2 (sh i 65535) o)
    + x (ix2 (sh i 65534) o) + x (ix2 (sh i 65533) o) + x (ix2 (sh i 65532) o) = _
  unfold around
  abel

/-- A one scattered along each edge: eight at every node. -/
theorem degree_eight (z : FVec Ideal S65536 .f32) (u : FVec Ideal S524288 .f32) (di : IVec S524288x1 32)
    (hz : ∀ i, z (ix1 i) = 0) (hu : ∀ e, u (ix1 e) = 1)
    (hd : ∀ e : Fin 524288, di (ix2 e 0) = BitVec.ofNat 32 (dst e.1)) (i : Fin 65536) :
    Host.scatterAdd scatter_S65536_S524288x1_S524288_n_0_0_1 z di u (ix1 i) = ((8 : ℝ) : EReal) := by
  rw [scatter_vec _ _ _ hd, hz, zero_add]
  rw [Finset.sum_congr rfl fun q _ => hu (edge i q), Fin.sum_univ_eight]
  rw [show (1 : EReal) = ((1 : ℝ) : EReal) from rfl]
  simp only [← EReal.coe_add]
  norm_num

end Cert.Proof.Graph

end
-- ==== Proof.Pre.lean ====
/- What the precondition says of the arguments: each number of the signal is real, and the two words of an edge name its source
   and its target on the ring. -/
module

public import proofs.«01_k».proof.Proof.Gen.Pre_ring_of_finite
public import proofs.«01_k».proof.Proof.Graph
public import Idealize.ShloMosaic.Lib.Pointwise
public import Idealize.ShloMosaic.Lib.WordCmp

@[expose] public section

set_option maxRecDepth 16384

noncomputable section

namespace Cert.Proof.Pre

open Idealize.ShloMosaic Cert.Pre_ring_of_finite Cert.Pre_ring_of_finite.Gen

/-- A number whose magnitude is below infinity is real. -/
theorem real_of {s : Shape} (a b : FVec Ideal s .f32) (hb : ∀ j, b j = (⊤ : EReal))
    (h : cmpf .olt (Host.absf a) b = fun _ => 1#1) (j : s.Idx) : ∃ r : ℝ, a j = (r : EReal) := by
  have hj := congrFun h j
  replace hj : Ideal.cmp .olt (max (a j) (-a j) : EReal) (b j) = 1#1 := hj
  rw [hb] at hj
  have hlt : max (a j : EReal) (-a j) < ⊤ := by
    by_contra hn
    simp [Ideal.cmp, hn] at hj
  rcases max_lt_iff.mp hlt with ⟨h1, h2⟩
  refine ⟨(a j : EReal).toReal, (EReal.coe_toReal h1.ne fun h3 => ?_).symm⟩
  rw [h3] at h2
  exact absurd h2 (by simp)

/-- Two words that compare equal are equal. -/
theorem eq_of_cmp (a b : BitVec 32) (h : IntOp.cmpi CmpIPredicate.eq a b = 1#1) : a = b := by
  by_contra hn
  have hb : (a == b) = false := by simpa using hn
  simp [IntOp.cmpi, hb] at h

/-- The word of `n`, shifted right by three bits. -/
theorem shift (n : ℕ) (h : n < 2 ^ 32) : IntOp.shrui ArithUnit.host (BitVec.ofNat 32 n) 3#32 = BitVec.ofNat 32 (n / 8) := by
  refine BitVec.eq_of_toNat_eq ?_
  simp [IntOp.shrui, Nat.shiftRight_eq_div_pow]
  omega

/-- The word of `n` with a mask of low bits. -/
theorem mask (n k : ℕ) (h : k < 32) :
    IntOp.andi (BitVec.ofNat 32 n) (BitVec.ofNat 32 (2 ^ k - 1)) = BitVec.ofNat 32 (n % 2 ^ k) := by
  refine BitVec.eq_of_toNat_eq ?_
  have h2 : 2 ^ k ≤ 2 ^ 31 := Nat.pow_le_pow_right (by norm_num) (by omega)
  have h3 : 2 ^ k ∣ 2 ^ 32 := pow_dvd_pow 2 (by omega)
  have h4 : 0 < 2 ^ k := by positivity
  show (BitVec.ofNat 32 n &&& BitVec.ofNat 32 (2 ^ k - 1)).toNat = _
  rw [BitVec.toNat_and, BitVec.toNat_ofNat, BitVec.toNat_ofNat, BitVec.toNat_ofNat, Nat.mod_eq_of_lt (a := 2 ^ k - 1) (by omega),
    Nat.and_two_pow_sub_one_eq_mod, Nat.mod_mod_of_dvd _ h3, Nat.mod_eq_of_lt (a := n % 2 ^ k)]
  have := Nat.mod_lt n h4
  omega

/-- The distance edge `q` leads, as a word. -/
theorem offset (q : ℕ) (h : q < 8) : IntOp.addi (IntOp.subi (BitVec.ofNat 32 q) 4#32)
    (BitVec.setWidth 32 (IntOp.cmpi CmpIPredicate.sge (BitVec.ofNat 32 q) 4#32))
      = BitVec.ofNat 32 (if q < 4 then 4294967292 + q else q - 3) := by
  interval_cases q <;> decide

variable (a0 : FVec Ideal S256x256 .f32) (a1 : FVec Ideal S4x64 .f32) (a2 : FVec Ideal S64 .f32)
  (a3 : FVec Ideal S4x64x64 .f32) (a4 : FVec Ideal S4x64 .f32) (a5 : FVec Ideal S64x4 .f32) (a6 : FVec Ideal S4 .f32)
  (a7 a8 : FVec Ideal S_ .f32) (a9 : IVec S2x524288 32)

/-- The signal: real numbers. -/
theorem fin0 (h : (fn (F := Ideal) a0 a1 a2 a3 a4 a5 a6 a7 a8 a9).1 = fun _ => 1#1) (j : S256x256.Idx) :
    ∃ r : ℝ, a0 j = (r : EReal) :=
  real_of a0 _ (fun j => by pointwise; simp [Ideal.ofBits, Ideal.ieee]) h j

/-- The source word of an edge. -/
theorem src (h : (fn (F := Ideal) a0 a1 a2 a3 a4 a5 a6 a7 a8 a9).2.1 = fun _ => 1#1) (e : Fin 524288) :
    a9 (ix2 0 e) = BitVec.ofNat 32 (e.1 / 8) := by
  have he := congrFun h (ix1 e)
  dsimp only [fn, fn_part1] at he
  pointwise at he
  rw [eq_of_cmp _ _ he, shift _ (by omega)]

/-- The target word of an edge. -/
theorem dst (h : (fn (F := Ideal) a0 a1 a2 a3 a4 a5 a6 a7 a8 a9).2.2 = fun _ => 1#1) (e : Fin 524288) :
    a9 (ix2 1 e) = BitVec.ofNat 32 (Graph.dst e.1) := by
  have he := congrFun h (ix1 e)
  dsimp only [fn, fn_part1] at he
  pointwise at he
  rw [eq_of_cmp _ _ he, shift _ (by omega), show (7#32) = BitVec.ofNat 32 (2 ^ 3 - 1) from rfl, mask _ 3 (by norm_num),
    show e.1 % 2 ^ 3 = e.1 % 8 from rfl, offset _ (Nat.mod_lt _ (by norm_num))]
  show IntOp.andi (BitVec.ofNat 32 _ + BitVec.ofNat 32 _) _ = _
  rw [← BitVec.ofNat_add, show (65535#32) = BitVec.ofNat 32 (2 ^ 16 - 1) from rfl, mask _ 16 (by norm_num)]
  refine congrArg _ ?_
  simp only [Graph.dst, Graph.fwd]
  split_ifs <;> omega

end Cert.Proof.Pre

end
-- ==== Proof.Hidden.lean ====
/- The reference's message passing network, stage by stage, is the one of Model.lean. -/
module

public import proofs.«01_k».proof.Proof.Gen.ReferenceIdeal.Read
public import proofs.«01_k».proof.Proof.Graph
public import Idealize.ShloMosaic.Lib.Pointwise
public import Idealize.ShloMosaic.Lib.WordCmp

@[expose] public section

set_option maxRecDepth 16384

noncomputable section

namespace Cert.Proof.Hidden

open Idealize.ShloMosaic Cert.ReferenceIdeal Cert.ReferenceIdeal.Gen Cert.ReferenceIdeal.Read

variable (x0 : FVec Ideal S256x256 .f32) (x1 : FVec Ideal S4x64 .f32) (x2 : FVec Ideal S64 .f32)
  (x3 : FVec Ideal S4x64x64 .f32) (x4 : FVec Ideal S4x64 .f32) (x5 : FVec Ideal S64x4 .f32) (x6 : FVec Ideal S4 .f32)
  (x7 x8 : FVec Ideal S_ .f32) (x9 : IVec S2x524288 32)

/-- The network whose weights and biases are the arguments. -/
def net : Net where
  wi k o := x1 (ix2 k o)
  bi o := x2 (ix1 o)
  wl l k o := x3 (ix3 l k o)
  bl l o := x4 (ix2 l o)
  wo k o := x5 (ix2 k o)
  bo o := x6 (ix1 o)

variable (hr hi : Row)
  (h1 : ∀ i, (val_main_v17 (F := Ideal) x0 x7 : FVec Ideal S65536 .f32) (ix1 i) = hr i)
  (h2 : ∀ i, (val_main_v19 (F := Ideal) x0 x8 : FVec Ideal S65536 .f32) (ix1 i) = hi i)
  (hs : ∀ e : Fin 524288, x9 (ix2 0 e) = BitVec.ofNat 32 (e.1 / 8))
  (hd : ∀ e : Fin 524288, x9 (ix2 1 e) = BitVec.ofNat 32 (Graph.dst e.1))

include h1 h2 in
/-- The modulus of the spectrum. -/
theorem modulus_row (i : Fin 65536) :
    (val_main_v25 (F := Ideal) x0 x7 x8 : FVec Ideal S65536 .f32) (ix1 i) = modulus (hr i) (hi i) := by
  pointwise [val_main_v25, val_main_v24, val_main_v23, val_main_v22, val_main_v21, val_main_v20, val_main_cst_2]
  rw [h1, h2]
  rfl

include h1 h2 in
/-- The four features of a node. -/
theorem features (i : Fin 65536) (k : Fin 4) :
    (val_main_v31 (F := Ideal) x0 x7 x8 : FVec Ideal S65536x4 .f32) (ix2 i k) = feat (hr i) (hi i) k := by
  have hm := modulus_row x0 x7 x8 hr hi h1 h2
  match k with
  | 0 =>
    pointwise [val_main_v31, val_main_v27]
    exact h1 i
  | 1 =>
    pointwise [val_main_v31, val_main_v28]
    exact h2 i
  | 2 =>
    pointwise [val_main_v31, val_main_v29]
    exact hm i
  | 3 =>
    pointwise [val_main_v31, val_main_v30, val_main_v26]
    rw [h1, h2]
    rfl

include h1 h2 in
/-- The first hidden state. -/
theorem first (i : Fin 65536) (o : Fin 64) :
    (val_main_v37 (F := Ideal) x0 x1 x2 x7 x8 : FVec Ideal S65536x64 .f32) (ix2 i o) = hid0 (net x1 x2 x3 x4 x5 x6) hr hi i o := by
  have hf := features x0 x7 x8 hr hi h1 h2
  pointwise [val_main_v37, val_main_v36, val_main_v35, val_main_v34, val_main_v33, val_main_v32, val_main_cst_3]
  simp only [hf]
  rfl

include hs in
/-- The words the gathers read. -/
theorem sources (e : Fin 524288) : (val_main_v51 (F := Ideal) x9 : IVec S524288x1 32) (ix2 e 0) = BitVec.ofNat 32 (e.1 / 8) := by
  pointwise [val_main_v51, val_main_v50, val_main_v49, val_main_v48, val_main_v47, val_main_v46, val_main_v39, val_main_v38,
    val_main_c_6, val_main_c_7]
  rw [hs]
  have hn : IntOp.cmpi CmpIPredicate.slt (BitVec.ofNat 32 (e.1 / 8)) 0#32 = 0#1 := by
    show BitVec.ofBool (BitVec.slt _ _) = _
    rw [BitVec.slt_eq_decide, Graph.toInt_word _ (by omega), decide_eq_false (by simp; omega)]
    rfl
  rw [hn]
  rfl

include hd in
/-- The words the first scatter reads. -/
theorem targets (e : Fin 524288) : (val_main_v44 (F := Ideal) x9 : IVec S524288x1 32) (ix2 e 0) = BitVec.ofNat 32 (Graph.dst e.1) := by
  pointwise [val_main_v44, val_main_v41, val_main_v40]
  exact hd e

include hd in
/-- The divisor of a node's neighbour sum. -/
theorem degrees (i : Fin 65536) :
    ((val_main_v45 (F := Ideal) x9 : FVec Ideal S65536 .f32) (ix1 i) + Ideal.ofBits .f32 0x358637BD#32 : EReal) = degree := by
  unfold val_main_v45
  rw [Graph.degree_eight _ _ _ (fun i => by pointwise [val_main_v43, val_main_cst_5])
    (fun e => by pointwise [val_main_v42, val_main_cst_4]) (targets x9 hd)]
  have e : Ideal.ofBits .f32 0x358637BD#32 = ((8796093 / 8796093022208 : ℝ) : EReal) := by
    simp [Ideal.ofBits, Ideal.ieee]
    rw [← EReal.coe_mul]
    norm_num
  rw [e, ← EReal.coe_add]
  unfold degree
  norm_num

/-- The zero word's number. -/
theorem zero_bits : Ideal.ofBits .f32 0x00000000#32 = 0 := by
  simp [Ideal.ofBits, Ideal.ieee]

include hd in
/-- The divisors of the first step. -/
theorem divisor1 (i : Fin 65536) (o : Fin 64) :
    (val_main_v59 (F := Ideal) x9 : FVec Ideal S65536x64 .f32) (ix2 i o) = degree := by
  rw [val_main_v59_apply, val_main_v58_apply, val_main_v57_apply, val_main_v56_apply, val_main_cst_9_apply,
    show idx_main_v56 (idx_main_v59 (ix2 i o)) = ix1 i from eq_ix1 _]
  exact degrees x9 hd i

include hs hd in
/-- The neighbour sums of the first step. -/
theorem sums1 (h : Fin 65536 → Fin 64 → EReal)
    (hh : ∀ i o, (val_main_v37 (F := Ideal) x0 x1 x2 x7 x8 : FVec Ideal S65536x64 .f32) (ix2 i o) = h i o) (i : Fin 65536)
    (k : Fin 64) : (val_main_v55 (F := Ideal) x0 x1 x2 x7 x8 x9 : FVec Ideal S65536x64 .f32) (ix2 i k) = around h i k := by
  refine (Graph.neighbours _ (val_main_v53 (F := Ideal)) (val_main_v51 (F := Ideal) x9) (val_main_v54 (F := Ideal) x9)
    (fun i o => by pointwise [val_main_v53, val_main_cst_8]) (fun e => sources x9 hs e) (fun e => targets x9 hd e) i k).trans ?_
  simp only [hh]

/-- The weights of the first step. -/
theorem weight1 (k o : Fin 64) : (val_main_v62 (F := Ideal) x3 : FVec Ideal S64x64 .f32) (ix2 k o) = x3 (ix3 0 k o) := by
  pointwise [val_main_v62, val_main_v61]

/-- The biases of the first step. -/
theorem bias1 (i : Fin 65536) (o : Fin 64) :
    (val_main_v67 (F := Ideal) x4 : FVec Ideal S65536x64 .f32) (ix2 i o) = x4 (ix2 0 o) := by
  pointwise [val_main_v67, val_main_v66, val_main_v65, val_main_v64]

include hs hd in
/-- The first step of message passing. -/
theorem step1 (h : Fin 65536 → Fin 64 → EReal)
    (hh : ∀ i o, (val_main_v37 (F := Ideal) x0 x1 x2 x7 x8 : FVec Ideal S65536x64 .f32) (ix2 i o) = h i o) (i : Fin 65536)
    (o : Fin 64) : (val_main_v71 (F := Ideal) x0 x1 x2 x3 x4 x7 x8 x9 : FVec Ideal S65536x64 .f32) (ix2 i o)
      = layer (net x1 x2 x3 x4 x5 x6) 0 h i o := by
  rw [val_main_v71_apply, val_main_v70_apply, val_main_v69_apply, val_main_cst_10_apply, val_main_v68_apply,
    val_main_v63_apply, bias1, hh]
  show max ((∑ k, _) + x4 (ix2 0 o) : EReal) (Ideal.ofBits .f32 0x00000000#32) + h i o = _
  rw [zero_bits]
  unfold layer dense
  refine congrArg (fun t : EReal => max (t + x4 (ix2 0 o)) 0 + h i o) (Finset.sum_congr rfl fun k _ => ?_)
  rw [show lidx_main_v63 (ix2 i o) k = ix2 i k from eq_ix2 _, show ridx_main_v63 (ix2 i o) k = ix2 k o from eq_ix2 _,
    weight1, val_main_v60_apply, sums1 x0 x1 x2 x7 x8 x9 hs hd h hh, divisor1 x9 hd]
  rfl

include hd in
/-- The divisors of the second step. -/
theorem divisor2 (i : Fin 65536) (o : Fin 64) :
    (val_main_v85 (F := Ideal) x9 : FVec Ideal S65536x64 .f32) (ix2 i o) = degree := by
  rw [val_main_v85_apply, val_main_v84_apply, val_main_v83_apply, val_main_v82_apply, val_main_cst_14_apply,
    show idx_main_v82 (idx_main_v85 (ix2 i o)) = ix1 i from eq_ix1 _]
  exact degrees x9 hd i

include hs hd in
/-- The neighbour sums of the second step. -/
theorem sums2 (h : Fin 65536 → Fin 64 → EReal)
    (hh : ∀ i o, (val_main_v71 (F := Ideal) x0 x1 x2 x3 x4 x7 x8 x9 : FVec Ideal S65536x64 .f32) (ix2 i o) = h i o) (i : Fin 65536)
    (k : Fin 64) : (val_main_v81 (F := Ideal) x0 x1 x2 x3 x4 x7 x8 x9 : FVec Ideal S65536x64 .f32) (ix2 i k) = around h i k := by
  refine (Graph.neighbours _ (val_main_v79 (F := Ideal)) (val_main_v77 (F := Ideal) x9) (val_main_v80 (F := Ideal) x9)
    (fun i o => by pointwise [val_main_v79, val_main_cst_13]) (fun e => sources x9 hs e) (fun e => targets x9 hd e) i k).trans ?_
  simp only [hh]

/-- The weights of the second step. -/
theorem weight2 (k o : Fin 64) : (val_main_v88 (F := Ideal) x3 : FVec Ideal S64x64 .f32) (ix2 k o) = x3 (ix3 1 k o) := by
  pointwise [val_main_v88, val_main_v87]

/-- The biases of the second step. -/
theorem bias2 (i : Fin 65536) (o : Fin 64) :
    (val_main_v93 (F := Ideal) x4 : FVec Ideal S65536x64 .f32) (ix2 i o) = x4 (ix2 1 o) := by
  pointwise [val_main_v93, val_main_v92, val_main_v91, val_main_v90]

include hs hd in
/-- The second step of message passing. -/
theorem step2 (h : Fin 65536 → Fin 64 → EReal)
    (hh : ∀ i o, (val_main_v71 (F := Ideal) x0 x1 x2 x3 x4 x7 x8 x9 : FVec Ideal S65536x64 .f32) (ix2 i o) = h i o) (i : Fin 65536)
    (o : Fin 64) : (val_main_v97 (F := Ideal) x0 x1 x2 x3 x4 x7 x8 x9 : FVec Ideal S65536x64 .f32) (ix2 i o)
      = layer (net x1 x2 x3 x4 x5 x6) 1 h i o := by
  rw [val_main_v97_apply, val_main_v96_apply, val_main_v95_apply, val_main_cst_15_apply, val_main_v94_apply,
    val_main_v89_apply, bias2, hh]
  show max ((∑ k, _) + x4 (ix2 1 o) : EReal) (Ideal.ofBits .f32 0x00000000#32) + h i o = _
  rw [zero_bits]
  unfold layer dense
  refine congrArg (fun t : EReal => max (t + x4 (ix2 1 o)) 0 + h i o) (Finset.sum_congr rfl fun k _ => ?_)
  rw [show lidx_main_v89 (ix2 i o) k = ix2 i k from eq_ix2 _, show ridx_main_v89 (ix2 i o) k = ix2 k o from eq_ix2 _,
    weight2, val_main_v86_apply, sums2 x0 x1 x2 x3 x4 x7 x8 x9 hs hd h hh, divisor2 x9 hd]
  rfl

include hd in
/-- The divisors of the third step. -/
theorem divisor3 (i : Fin 65536) (o : Fin 64) :
    (val_main_v111 (F := Ideal) x9 : FVec Ideal S65536x64 .f32) (ix2 i o) = degree := by
  rw [val_main_v111_apply, val_main_v110_apply, val_main_v109_apply, val_main_v108_apply, val_main_cst_19_apply,
    show idx_main_v108 (idx_main_v111 (ix2 i o)) = ix1 i from eq_ix1 _]
  exact degrees x9 hd i

include hs hd in
/-- The neighbour sums of the third step. -/
theorem sums3 (h : Fin 65536 → Fin 64 → EReal)
    (hh : ∀ i o, (val_main_v97 (F := Ideal) x0 x1 x2 x3 x4 x7 x8 x9 : FVec Ideal S65536x64 .f32) (ix2 i o) = h i o) (i : Fin 65536)
    (k : Fin 64) : (val_main_v107 (F := Ideal) x0 x1 x2 x3 x4 x7 x8 x9 : FVec Ideal S65536x64 .f32) (ix2 i k) = around h i k := by
  refine (Graph.neighbours _ (val_main_v105 (F := Ideal)) (val_main_v103 (F := Ideal) x9) (val_main_v106 (F := Ideal) x9)
    (fun i o => by pointwise [val_main_v105, val_main_cst_18]) (fun e => sources x9 hs e) (fun e => targets x9 hd e) i k).trans ?_
  simp only [hh]

/-- The weights of the third step. -/
theorem weight3 (k o : Fin 64) : (val_main_v114 (F := Ideal) x3 : FVec Ideal S64x64 .f32) (ix2 k o) = x3 (ix3 2 k o) := by
  pointwise [val_main_v114, val_main_v113]

/-- The biases of the third step. -/
theorem bias3 (i : Fin 65536) (o : Fin 64) :
    (val_main_v119 (F := Ideal) x4 : FVec Ideal S65536x64 .f32) (ix2 i o) = x4 (ix2 2 o) := by
  pointwise [val_main_v119, val_main_v118, val_main_v117, val_main_v116]

include hs hd in
/-- The third step of message passing. -/
theorem step3 (h : Fin 65536 → Fin 64 → EReal)
    (hh : ∀ i o, (val_main_v97 (F := Ideal) x0 x1 x2 x3 x4 x7 x8 x9 : FVec Ideal S65536x64 .f32) (ix2 i o) = h i o) (i : Fin 65536)
    (o : Fin 64) : (val_main_v123 (F := Ideal) x0 x1 x2 x3 x4 x7 x8 x9 : FVec Ideal S65536x64 .f32) (ix2 i o)
      = layer (net x1 x2 x3 x4 x5 x6) 2 h i o := by
  rw [val_main_v123_apply, val_main_v122_apply, val_main_v121_apply, val_main_cst_20_apply, val_main_v120_apply,
    val_main_v115_apply, bias3, hh]
  show max ((∑ k, _) + x4 (ix2 2 o) : EReal) (Ideal.ofBits .f32 0x00000000#32) + h i o = _
  rw [zero_bits]
  unfold layer dense
  refine congrArg (fun t : EReal => max (t + x4 (ix2 2 o)) 0 + h i o) (Finset.sum_congr rfl fun k _ => ?_)
  rw [show lidx_main_v115 (ix2 i o) k = ix2 i k from eq_ix2 _, show ridx_main_v115 (ix2 i o) k = ix2 k o from eq_ix2 _,
    weight3, val_main_v112_apply, sums3 x0 x1 x2 x3 x4 x7 x8 x9 hs hd h hh, divisor3 x9 hd]
  rfl

include hd in
/-- The divisors of the fourth step. -/
theorem divisor4 (i : Fin 65536) (o : Fin 64) :
    (val_main_v137 (F := Ideal) x9 : FVec Ideal S65536x64 .f32) (ix2 i o) = degree := by
  rw [val_main_v137_apply, val_main_v136_apply, val_main_v135_apply, val_main_v134_apply, val_main_cst_24_apply,
    show idx_main_v134 (idx_main_v137 (ix2 i o)) = ix1 i from eq_ix1 _]
  exact degrees x9 hd i

include hs hd in
/-- The neighbour sums of the fourth step. -/
theorem sums4 (h : Fin 65536 → Fin 64 → EReal)
    (hh : ∀ i o, (val_main_v123 (F := Ideal) x0 x1 x2 x3 x4 x7 x8 x9 : FVec Ideal S65536x64 .f32) (ix2 i o) = h i o) (i : Fin 65536)
    (k : Fin 64) : (val_main_v133 (F := Ideal) x0 x1 x2 x3 x4 x7 x8 x9 : FVec Ideal S65536x64 .f32) (ix2 i k) = around h i k := by
  refine (Graph.neighbours _ (val_main_v131 (F := Ideal)) (val_main_v129 (F := Ideal) x9) (val_main_v132 (F := Ideal) x9)
    (fun i o => by pointwise [val_main_v131, val_main_cst_23]) (fun e => sources x9 hs e) (fun e => targets x9 hd e) i k).trans ?_
  simp only [hh]

/-- The weights of the fourth step. -/
theorem weight4 (k o : Fin 64) : (val_main_v140 (F := Ideal) x3 : FVec Ideal S64x64 .f32) (ix2 k o) = x3 (ix3 3 k o) := by
  pointwise [val_main_v140, val_main_v139]

/-- The biases of the fourth step. -/
theorem bias4 (i : Fin 65536) (o : Fin 64) :
    (val_main_v145 (F := Ideal) x4 : FVec Ideal S65536x64 .f32) (ix2 i o) = x4 (ix2 3 o) := by
  pointwise [val_main_v145, val_main_v144, val_main_v143, val_main_v142]

include hs hd in
/-- The fourth step of message passing. -/
theorem step4 (h : Fin 65536 → Fin 64 → EReal)
    (hh : ∀ i o, (val_main_v123 (F := Ideal) x0 x1 x2 x3 x4 x7 x8 x9 : FVec Ideal S65536x64 .f32) (ix2 i o) = h i o) (i : Fin 65536)
    (o : Fin 64) : (val_main_v149 (F := Ideal) x0 x1 x2 x3 x4 x7 x8 x9 : FVec Ideal S65536x64 .f32) (ix2 i o)
      = layer (net x1 x2 x3 x4 x5 x6) 3 h i o := by
  rw [val_main_v149_apply, val_main_v148_apply, val_main_v147_apply, val_main_cst_25_apply, val_main_v146_apply,
    val_main_v141_apply, bias4, hh]
  show max ((∑ k, _) + x4 (ix2 3 o) : EReal) (Ideal.ofBits .f32 0x00000000#32) + h i o = _
  rw [zero_bits]
  unfold layer dense
  refine congrArg (fun t : EReal => max (t + x4 (ix2 3 o)) 0 + h i o) (Finset.sum_congr rfl fun k _ => ?_)
  rw [show lidx_main_v141 (ix2 i o) k = ix2 i k from eq_ix2 _, show ridx_main_v141 (ix2 i o) k = ix2 k o from eq_ix2 _,
    weight4, val_main_v138_apply, sums4 x0 x1 x2 x3 x4 x7 x8 x9 hs hd h hh, divisor4 x9 hd]
  rfl

end Cert.Proof.Hidden

end
-- ==== Proof.Finite.lean ====
/- The numbers the quantiser rounds are never the upper infinity; so adding back what a rounding took away gives the
   rounded number, whatever the arguments are. -/
module

public import proofs.«01_k».proof.Proof.Model

@[expose] public section

noncomputable section

namespace Cert.Proof.Finite

open Idealize.ShloMosaic

/-- Adding back what the rounding took away gives the rounded number. -/
theorem straight_through {x : EReal} (h : x ≠ ⊤) : x + (rnd x - x) = rnd x := by
  induction x with
  | top => exact absurd rfl h
  | bot => exact EReal.bot_add _
  | coe a =>
    show ((a : ℝ) : EReal) + (((Ideal.roundHalfEven a : ℝ) : EReal) - (a : EReal)) = ((Ideal.roundHalfEven a : ℝ) : EReal)
    rw [← EReal.coe_sub, ← EReal.coe_add]
    refine congrArg _ ?_
    ring

/-- The f32 constant nearest `1e-12`. -/
theorem tiny_eq : Ideal.ofBits .f32 0x2B8CBCCC#32 = ((2305843 / 2305843009213693952 : ℝ) : EReal) := by
  simp [Ideal.ofBits, Ideal.ieee]
  rw [← EReal.coe_mul]
  norm_num

/-- The f32 constant nearest `1e-8`. -/
theorem small_eq : Ideal.ofBits .f32 0x322BCC77#32 = ((11258999 / 1125899906842624 : ℝ) : EReal) := by
  simp [Ideal.ofBits, Ideal.ieee]
  rw [← EReal.coe_mul]
  norm_num

/-- The f32 constant nearest `π`. -/
theorem pi_eq : Ideal.ofBits .f32 0x40490FDB#32 = ((13176795 / 4194304 : ℝ) : EReal) := by
  simp [Ideal.ofBits, Ideal.ieee]
  rw [← EReal.coe_mul]
  norm_num

/-- The f32 constant nearest `2 π`. -/
theorem tau_eq : Ideal.ofBits .f32 0x40C90FDB#32 = ((13176795 / 2097152 : ℝ) : EReal) := by
  simp [Ideal.ofBits, Ideal.ieee]
  rw [← EReal.coe_mul]
  norm_num

/-- The number 255. -/
theorem phases_eq : Ideal.ofBits .f32 0x437F0000#32 = ((255 : ℝ) : EReal) := by
  simp [Ideal.ofBits, Ideal.ieee]
  rw [← EReal.coe_mul]
  norm_num

/-- The number 15. -/
theorem levels_eq : Ideal.ofBits .f32 0x41700000#32 = ((15 : ℝ) : EReal) := by
  simp [Ideal.ofBits, Ideal.ieee]
  rw [← EReal.coe_mul]
  norm_num

/-- A square is not negative. -/
theorem square_nonneg (x : EReal) : 0 ≤ x * x := by
  induction x with
  | top => simp
  | bot => simp
  | coe a =>
    rw [← EReal.coe_mul]
    exact_mod_cast mul_self_nonneg a

/-- A root of a number that is not negative is not negative. -/
theorem sqrt_nonneg {x : EReal} (h : 0 ≤ x) : 0 ≤ Ideal.sqrt x := by
  induction x with
  | top => exact le_top
  | bot => exact absurd h (by simp)
  | coe a =>
    rw [Ideal.sqrt_coe, if_neg (not_lt.mpr (by exact_mod_cast h))]
    exact_mod_cast Real.sqrt_nonneg a

/-- A modulus is not negative. -/
theorem modulus_nonneg (x y : EReal) : 0 ≤ modulus x y := by
  refine sqrt_nonneg (add_nonneg (add_nonneg (square_nonneg x) (square_nonneg y)) ?_)
  unfold tiny
  rw [tiny_eq]
  exact_mod_cast (by norm_num : (0 : ℝ) ≤ 2305843 / 2305843009213693952)

/-- A number between zero and the upper infinity is real. -/
theorem real_of_nonneg {x : EReal} (h : 0 ≤ x) (ht : x ≠ ⊤) : ∃ r : ℝ, 0 ≤ r ∧ x = (r : EReal) := by
  induction x with
  | top => exact absurd rfl ht
  | bot => exact absurd h (by simp)
  | coe a => exact ⟨a, by exact_mod_cast h, rfl⟩

/-- The number whose rounding is the level of a modulus is not the upper infinity: it is zero where the scale is infinite,
    and real where the scale is real. -/
theorem amp (x y : Row) (i : Fin 65536) :
    Ideal.div (modulus (x i) (y i)) (scale x y) * Ideal.ofBits .f32 0x41700000#32 ≠ ⊤ := by
  have hle : modulus (x i) (y i) ≤ top fun i => modulus (x i) (y i) :=
    Finset.le_sup (f := fun i => modulus (x i) (y i)) (Finset.mem_univ i)
  have hpos := modulus_nonneg (x i) (y i)
  rw [levels_eq]
  unfold scale
  rw [small_eq]
  generalize (top fun i => modulus (x i) (y i)) = t at hle ⊢
  generalize modulus (x i) (y i) = a at hle hpos ⊢
  by_cases ht : t = ⊤
  · subst ht
    rw [EReal.top_add_coe]
    unfold Ideal.div
    rw [if_neg (by simp), EReal.inv_top, mul_zero, zero_mul]
    exact EReal.zero_ne_top
  · obtain ⟨r, hr, rfl⟩ := real_of_nonneg (hpos.trans hle) ht
    obtain ⟨b, hb, rfl⟩ := real_of_nonneg hpos (fun h => ht (top_le_iff.mp (h ▸ hle)))
    rw [← EReal.coe_add]
    have h0 : r + 11258999 / 1125899906842624 ≠ 0 := by positivity
    unfold Ideal.div
    rw [if_neg (by exact_mod_cast h0), ← EReal.coe_inv, ← EReal.coe_mul, ← EReal.coe_mul]
    exact EReal.coe_ne_top _

/-- An angle is not the upper infinity. -/
theorem atan2 (y x : EReal) : Ideal.atan2 y x ≠ ⊤ := by
  induction y with
  | top => exact bot_ne_top
  | bot => exact bot_ne_top
  | coe b =>
    induction x with
    | top => exact bot_ne_top
    | bot => exact bot_ne_top
    | coe a => exact EReal.coe_ne_top _

/-- The number whose rounding is the level of a phase is not the upper infinity. -/
theorem phase (x y : EReal) : phaseLevel (Ideal.atan2 y x) ≠ ⊤ := by
  have h := atan2 y x
  generalize Ideal.atan2 y x = t at h ⊢
  unfold phaseLevel
  rw [pi_eq, tau_eq, phases_eq]
  unfold Ideal.div
  rw [if_neg (by exact_mod_cast (by norm_num : (13176795 / 2097152 : ℝ) ≠ 0)), ← EReal.coe_inv]
  induction t with
  | top => exact absurd rfl h
  | bot =>
    rw [EReal.bot_add, EReal.bot_mul_coe_of_pos (by norm_num), EReal.bot_mul_coe_of_pos (by norm_num)]
    exact bot_ne_top
  | coe a =>
    rw [← EReal.coe_add, ← EReal.coe_mul, ← EReal.coe_mul]
    exact EReal.coe_ne_top _

end Cert.Proof.Finite

end
-- ==== Proof.Quant.lean ====
/- What the quantiser's pallas_call leaves in its result: the residual rows in polar form, modulus and phase rounded to
   their levels, and the predicted rows as they were. -/
module

public import proofs.«01_k».proof.Proof.Gen.KernelIdeal.Frame
public import proofs.«01_k».proof.Proof.Model
public import Idealize.ShloMosaic.Lib.Pointwise
public import Idealize.ShloMosaic.Lib.Pipeline.ValueKit

@[expose] public section

set_option maxRecDepth 16384

noncomputable section

namespace Cert.Proof.Quant

open Idealize.ShloMosaic Cert.KernelIdeal Cert.KernelIdeal.Gen

/-- The rows of a block of four. -/
def rows (x : FVec Ideal S4x65536 .f32) : Fin 4 → Row := fun r i => x (ix2 r i)

/-- The word of minus infinity. -/
theorem neg_inf : Ideal.ofBits .f32 0xFF800000#32 = ⊥ := by
  simp [Ideal.ofBits, Ideal.ieee]

/-- The maximum over a row under two unit axes is the row's. -/
theorem fold_top (a : Row) : Finset.fold max (Ideal.ofBits .f32 0xFF800000#32) (fun p : Fin 1 × Fin 65536 => a p.2) Finset.univ
    = top a := by
  rw [neg_inf]
  refine le_antisymm (Finset.sup_le (f := fun p : Fin 1 × Fin 65536 => a p.2) fun p _ => Finset.le_sup (Finset.mem_univ _)) ?_
  exact Finset.sup_le fun i _ => Finset.le_sup (f := fun p : Fin 1 × Fin 65536 => a p.2) (Finset.mem_univ ((0 : Fin 1), i))

/-- The kernel's quantised modulus. -/
theorem amp_at (x : FVec Ideal S4x65536 .f32) (i : Fin 65536) :
    k2_pay6 (F := Ideal) (View.ld x r2_0) (View.ld x r2_1) (ix2 0 i)
      = quantAmp (scale (rows x 0) (rows x 1)) (modulus (rows x 0 i) (rows x 1 i)) := by
  unfold_payloads
  pointwise
  rw [fold_top (fun i => Ideal.sqrt (x (ix2 0 i) * x (ix2 0 i) + x (ix2 1 i) * x (ix2 1 i) + Ideal.ofBits .f32 0x2B8CBCCC#32))]
  rfl

/-- The cosine row. -/
theorem cos_at (x : FVec Ideal S4x65536 .f32) (i : Fin 65536) :
    k2_pay8 (F := Ideal) (View.ld x r2_0) (View.ld x r2_1) (ix2 0 i) = quant (rows x) 0 i := by
  refine Eq.trans (b := k2_pay6 (F := Ideal) (View.ld x r2_0) (View.ld x r2_1) (ix2 0 i)
    * Ideal.cos (quantPhase (Ideal.atan2 (rows x 1 i) (rows x 0 i)))) ?_ (by rw [amp_at]; rfl)
  generalize hA : k2_pay6 (F := Ideal) (View.ld x r2_0) (View.ld x r2_1) = A
  pointwise [k2_pay8, hA]
  unfold_payloads
  pointwise
  rfl

/-- The sine row. -/
theorem sin_at (x : FVec Ideal S4x65536 .f32) (i : Fin 65536) :
    k2_pay1 (F := Ideal) (k2_pay6 (View.ld x r2_0) (View.ld x r2_1)) (k2_pay9 (View.ld x r2_0) (View.ld x r2_1)) (ix2 0 i)
      = quant (rows x) 1 i := by
  refine Eq.trans (b := k2_pay6 (F := Ideal) (View.ld x r2_0) (View.ld x r2_1) (ix2 0 i)
    * Ideal.sin (quantPhase (Ideal.atan2 (rows x 1 i) (rows x 0 i)))) ?_ (by rw [amp_at]; rfl)
  generalize hA : k2_pay6 (F := Ideal) (View.ld x r2_0) (View.ld x r2_1) = A
  pointwise [k2_pay1]
  unfold_payloads
  pointwise
  rfl

/-- What the kernel leaves. -/
theorem out_at (x : FVec Ideal S4x65536 .f32) (r : Fin 4) (i : Fin 65536) :
    out2_1 (F := Ideal) x (ix2 r i) = quant (rows x) r i := by
  unfold out2_1
  canon_tiles y h
  all_goals
    idx_vars y
    obtain rfl : y0 = 0 := Subsingleton.elim _ _
    obtain rfl : i = y1 := Fin.ext h1
  · obtain rfl : r = 3 := Fin.ext h0
    pointwise [k2_pay3]; rfl
  · obtain rfl : r = 2 := Fin.ext h0
    pointwise [k2_pay2]; rfl
  · obtain rfl : r = 1 := Fin.ext h0
    exact sin_at x _
  · obtain rfl : r = 0 := Fin.ext h0
    exact cos_at x _

variable (V : (c : Dev nD) → (b : Ref sig .tc) → Buf (Elt Ideal) ((c.tc : Thread nD τ).loc b)) (c : Dev nD)

/-- The result array. -/
theorem final : (dat2 V c).arrAt 1 cfg2.N = (fun j => quant (rows (V c main_v35)) (j 0) (j 1) : FVec Ideal S4x65536 .f32) := by
  refine (dat2 V c).arrAt_eq_of_after_last 1 t2_0 (by decide +kernel) _ fun j => ?_
  blk_simp
  rw [after2_1]
  idx_vars j
  have e : (iblk2 V c 0 t2_0 : FVec Ideal S4x65536 .f32) = V c main_v35 := by
    have := (by decide +kernel : ∀ t : Fin grid2.N, win2_0.index t = ![0, 0]) t2_0
    blk_ext! [iblk2, this]
  exact (out_at _ j0 j1).trans (by rw [e])

end Cert.Proof.Quant

end
-- ==== Proof.Output.lean ====
/- The reference's prediction, residual and quantiser, stage by stage, are those of Model.lean. -/
module

public import proofs.«01_k».proof.Proof.Hidden
public import proofs.«01_k».proof.Proof.Finite
public import proofs.«01_k».proof.Proof.Quant

@[expose] public section

set_option maxRecDepth 16384

noncomputable section

namespace Cert.Proof.Output

open Idealize.ShloMosaic Cert.ReferenceIdeal Cert.ReferenceIdeal.Gen Cert.ReferenceIdeal.Read

variable (x0 : FVec Ideal S256x256 .f32) (x1 : FVec Ideal S4x64 .f32) (x2 : FVec Ideal S64 .f32)
  (x3 : FVec Ideal S4x64x64 .f32) (x4 : FVec Ideal S4x64 .f32) (x5 : FVec Ideal S64x4 .f32) (x6 : FVec Ideal S4 .f32)
  (x7 x8 : FVec Ideal S_ .f32) (x9 : IVec S2x524288 32)

variable (hr hi : Row)
  (h1 : ∀ i, (val_main_v17 (F := Ideal) x0 x7 : FVec Ideal S65536 .f32) (ix1 i) = hr i)
  (h2 : ∀ i, (val_main_v19 (F := Ideal) x0 x8 : FVec Ideal S65536 .f32) (ix1 i) = hi i)
  (hs : ∀ e : Fin 524288, x9 (ix2 0 e) = BitVec.ofNat 32 (e.1 / 8))
  (hd : ∀ e : Fin 524288, x9 (ix2 1 e) = BitVec.ofNat 32 (Graph.dst e.1))

include h1 h2 hs hd in
/-- The hidden state after the four steps. -/
theorem hidden (i : Fin 65536) (o : Fin 64) :
    (val_main_v149 (F := Ideal) x0 x1 x2 x3 x4 x7 x8 x9 : FVec Ideal S65536x64 .f32) (ix2 i o)
      = hid4 (Hidden.net x1 x2 x3 x4 x5 x6) hr hi i o := by
  have s0 := Hidden.first x0 x1 x2 x3 x4 x5 x6 x7 x8 hr hi h1 h2
  have s1 := Hidden.step1 x0 x1 x2 x3 x4 x5 x6 x7 x8 x9 hs hd _ s0
  have s2 := Hidden.step2 x0 x1 x2 x3 x4 x5 x6 x7 x8 x9 hs hd _ s1
  have s3 := Hidden.step3 x0 x1 x2 x3 x4 x5 x6 x7 x8 x9 hs hd _ s2
  exact Hidden.step4 x0 x1 x2 x3 x4 x5 x6 x7 x8 x9 hs hd _ s3 i o

include h1 h2 hs hd in
/-- The prediction. -/
theorem guess (i : Fin 65536) (o : Fin 4) :
    (val_main_v153 (F := Ideal) x0 x1 x2 x3 x4 x5 x6 x7 x8 x9 : FVec Ideal S65536x4 .f32) (ix2 i o)
      = pred (Hidden.net x1 x2 x3 x4 x5 x6) hr hi i o := by
  have hb : (val_main_v152 (F := Ideal) x6 : FVec Ideal S65536x4 .f32) (ix2 i o) = x6 (ix1 o) := by
    pointwise [val_main_v152, val_main_v151]
  rw [val_main_v153_apply, val_main_v150_apply, hb]
  show ((∑ k, _) + x6 (ix1 o) : EReal) = _
  unfold pred dense
  refine congrArg (fun t : EReal => t + x6 (ix1 o)) (Finset.sum_congr rfl fun k _ => ?_)
  rw [show lidx_main_v150 (ix2 i o) k = ix2 i k from eq_ix2 _, show ridx_main_v150 (ix2 i o) k = ix2 k o from eq_ix2 _,
    hidden x0 x1 x2 x3 x4 x5 x6 x7 x8 x9 hr hi h1 h2 hs hd]
  rfl

/-- The four rows the quantiser reads. -/
abbrev rows : Fin 4 → Row := resid (Hidden.net x1 x2 x3 x4 x5 x6) hr hi

include h1 h2 hs hd in
/-- The first predicted row. -/
theorem guess_re (i : Fin 65536) :
    (val_main_v155 (F := Ideal) x0 x1 x2 x3 x4 x5 x6 x7 x8 x9 : FVec Ideal S65536 .f32) (ix1 i)
      = rows x1 x2 x3 x4 x5 x6 hr hi 2 i := by
  have h := guess x0 x1 x2 x3 x4 x5 x6 x7 x8 x9 hr hi h1 h2 hs hd i 0
  unfold val_main_v155 val_main_v154
  generalize val_main_v153 (F := Ideal) x0 x1 x2 x3 x4 x5 x6 x7 x8 x9 = y at h ⊢
  pointwise
  exact h

include h1 h2 hs hd in
/-- The second predicted row. -/
theorem guess_im (i : Fin 65536) :
    (val_main_v157 (F := Ideal) x0 x1 x2 x3 x4 x5 x6 x7 x8 x9 : FVec Ideal S65536 .f32) (ix1 i)
      = rows x1 x2 x3 x4 x5 x6 hr hi 3 i := by
  have h := guess x0 x1 x2 x3 x4 x5 x6 x7 x8 x9 hr hi h1 h2 hs hd i 1
  unfold val_main_v157 val_main_v156
  generalize val_main_v153 (F := Ideal) x0 x1 x2 x3 x4 x5 x6 x7 x8 x9 = y at h ⊢
  pointwise
  exact h

include h1 h2 hs hd in
/-- The first residual row. -/
theorem rest_re (i : Fin 65536) :
    (val_main_v158 (F := Ideal) x0 x1 x2 x3 x4 x5 x6 x7 x8 x9 : FVec Ideal S65536 .f32) (ix1 i)
      = rows x1 x2 x3 x4 x5 x6 hr hi 0 i := by
  rw [val_main_v158_apply, h1, guess_re x0 x1 x2 x3 x4 x5 x6 x7 x8 x9 hr hi h1 h2 hs hd]
  rfl

include h1 h2 hs hd in
/-- The second residual row. -/
theorem rest_im (i : Fin 65536) :
    (val_main_v159 (F := Ideal) x0 x1 x2 x3 x4 x5 x6 x7 x8 x9 : FVec Ideal S65536 .f32) (ix1 i)
      = rows x1 x2 x3 x4 x5 x6 hr hi 1 i := by
  rw [val_main_v159_apply, h2, guess_im x0 x1 x2 x3 x4 x5 x6 x7 x8 x9 hr hi h1 h2 hs hd]
  rfl

include h1 h2 hs hd in
/-- The moduli of the residuals. -/
theorem moduli (i : Fin 65536) :
    (val_main_v165 (F := Ideal) x0 x1 x2 x3 x4 x5 x6 x7 x8 x9 : FVec Ideal S65536 .f32) (ix1 i)
      = modulus (rows x1 x2 x3 x4 x5 x6 hr hi 0 i) (rows x1 x2 x3 x4 x5 x6 hr hi 1 i) := by
  rw [val_main_v165_apply, val_main_v164_apply, val_main_v163_apply, val_main_v162_apply, val_main_v161_apply,
    val_main_v160_apply, val_main_cst_26_apply, rest_re x0 x1 x2 x3 x4 x5 x6 x7 x8 x9 hr hi h1 h2 hs hd,
    rest_im x0 x1 x2 x3 x4 x5 x6 x7 x8 x9 hr hi h1 h2 hs hd]
  rfl

/-- The largest of a row, by the host's reduction. -/
theorem largest (y : FVec Ideal S65536 .f32) :
    Host.reduce FloatOps.maximumf y (val_main_cst_27 (F := Ideal)) reducesTo_S65536_S_d0 h_S_ ix0 = top fun i => y (ix1 i) := by
  pointwise [val_main_cst_27]
  rw [Quant.neg_inf]
  rfl

include h1 h2 hs hd in
/-- The quantiser's scale. -/
theorem scales :
    (val_main_v168 (F := Ideal) x0 x1 x2 x3 x4 x5 x6 x7 x8 x9 : FVec Ideal S_ .f32) ix0
      = scale (rows x1 x2 x3 x4 x5 x6 hr hi 0) (rows x1 x2 x3 x4 x5 x6 hr hi 1) := by
  rw [val_main_v168_apply, val_main_cst_28_apply]
  unfold val_main_v167
  rw [largest]
  simp only [moduli x0 x1 x2 x3 x4 x5 x6 x7 x8 x9 hr hi h1 h2 hs hd]
  rfl

include h1 h2 hs hd in
/-- The rounded moduli. -/
theorem amplitudes (i : Fin 65536) : (val_main_v179 (F := Ideal) x0 x1 x2 x3 x4 x5 x6 x7 x8 x9 : FVec Ideal S65536 .f32) (ix1 i)
    = quantAmp (scale (rows x1 x2 x3 x4 x5 x6 hr hi 0) (rows x1 x2 x3 x4 x5 x6 hr hi 1))
      (modulus (rows x1 x2 x3 x4 x5 x6 hr hi 0 i) (rows x1 x2 x3 x4 x5 x6 hr hi 1 i)) := by
  have e : ∀ j : S_.Idx, j = ix0 := fun j => funext fun a => a.elim0
  rw [val_main_v179_apply, val_main_v178_apply, val_main_v177_apply, val_main_v176_apply, val_main_v175_apply,
    val_main_v174_apply, val_main_v173_apply, val_main_v172_apply, val_main_v171_apply, val_main_v170_apply,
    val_main_v169_apply, val_main_cst_29_apply, val_main_cst_30_apply, e (idx_main_v169 _), e (idx_main_v178 _),
    scales x0 x1 x2 x3 x4 x5 x6 x7 x8 x9 hr hi h1 h2 hs hd,
    moduli x0 x1 x2 x3 x4 x5 x6 x7 x8 x9 hr hi h1 h2 hs hd]
  have h := Finite.straight_through
    (Finite.amp (x := rows x1 x2 x3 x4 x5 x6 hr hi 0) (y := rows x1 x2 x3 x4 x5 x6 hr hi 1) i)
  unfold quantAmp
  generalize modulus (rows x1 x2 x3 x4 x5 x6 hr hi 0 i) (rows x1 x2 x3 x4 x5 x6 hr hi 1 i) = a at h ⊢
  generalize scale (rows x1 x2 x3 x4 x5 x6 hr hi 0) (rows x1 x2 x3 x4 x5 x6 hr hi 1) = t at h ⊢
  rw [← h]
  rfl

include h1 h2 hs hd in
/-- The rounded phases. -/
theorem phases (i : Fin 65536) : (val_main_v194 (F := Ideal) x0 x1 x2 x3 x4 x5 x6 x7 x8 x9 : FVec Ideal S65536 .f32) (ix1 i)
    = quantPhase (Ideal.atan2 (rows x1 x2 x3 x4 x5 x6 hr hi 1 i) (rows x1 x2 x3 x4 x5 x6 hr hi 0 i)) := by
  rw [val_main_v194_apply, val_main_v193_apply, val_main_v192_apply, val_main_v191_apply, val_main_v190_apply,
    val_main_v189_apply, val_main_v188_apply, val_main_v187_apply, val_main_v186_apply, val_main_v185_apply,
    val_main_v184_apply, val_main_v183_apply, val_main_v182_apply, val_main_v181_apply, val_main_v180_apply,
    val_main_v166_apply, val_main_cst_31_apply, val_main_cst_32_apply, val_main_cst_33_apply, val_main_cst_34_apply,
    val_main_cst_35_apply, val_main_cst_36_apply, rest_re x0 x1 x2 x3 x4 x5 x6 x7 x8 x9 hr hi h1 h2 hs hd,
    rest_im x0 x1 x2 x3 x4 x5 x6 x7 x8 x9 hr hi h1 h2 hs hd]
  have h := Finite.straight_through (Finite.phase (rows x1 x2 x3 x4 x5 x6 hr hi 0 i) (rows x1 x2 x3 x4 x5 x6 hr hi 1 i))
  unfold quantPhase
  rw [← h]
  rfl

include h1 h2 hs hd in
/-- The four rows of the result. -/
theorem result (r : Fin 4) (i : Fin 65536) :
    (val_main_v203 (F := Ideal) x0 x1 x2 x3 x4 x5 x6 x7 x8 x9 : FVec Ideal S4x65536 .f32) (ix2 r i)
      = quant (rows x1 x2 x3 x4 x5 x6 hr hi) r i := by
  have a := amplitudes x0 x1 x2 x3 x4 x5 x6 x7 x8 x9 hr hi h1 h2 hs hd i
  have p := phases x0 x1 x2 x3 x4 x5 x6 x7 x8 x9 hr hi h1 h2 hs hd i
  match r with
  | 0 =>
    refine Eq.trans (b := val_main_v196 (F := Ideal) x0 x1 x2 x3 x4 x5 x6 x7 x8 x9 (ix1 i)) ?_ ?_
    · unfold val_main_v203 val_main_v199
      generalize val_main_v196 (F := Ideal) x0 x1 x2 x3 x4 x5 x6 x7 x8 x9 = y
      pointwise
    · rw [val_main_v196_apply, val_main_v195_apply, a, p]
      rfl
  | 1 =>
    refine Eq.trans (b := val_main_v198 (F := Ideal) x0 x1 x2 x3 x4 x5 x6 x7 x8 x9 (ix1 i)) ?_ ?_
    · unfold val_main_v203 val_main_v200
      generalize val_main_v198 (F := Ideal) x0 x1 x2 x3 x4 x5 x6 x7 x8 x9 = y
      pointwise
    · rw [val_main_v198_apply, val_main_v197_apply, a, p]
      rfl
  | 2 =>
    refine Eq.trans (b := val_main_v155 (F := Ideal) x0 x1 x2 x3 x4 x5 x6 x7 x8 x9 (ix1 i)) ?_
      (guess_re x0 x1 x2 x3 x4 x5 x6 x7 x8 x9 hr hi h1 h2 hs hd i)
    unfold val_main_v203 val_main_v201
    generalize val_main_v155 (F := Ideal) x0 x1 x2 x3 x4 x5 x6 x7 x8 x9 = y
    pointwise
  | 3 =>
    refine Eq.trans (b := val_main_v157 (F := Ideal) x0 x1 x2 x3 x4 x5 x6 x7 x8 x9 (ix1 i)) ?_
      (guess_im x0 x1 x2 x3 x4 x5 x6 x7 x8 x9 hr hi h1 h2 hs hd i)
    unfold val_main_v203 val_main_v202
    generalize val_main_v157 (F := Ideal) x0 x1 x2 x3 x4 x5 x6 x7 x8 x9 = y
    pointwise

end Cert.Proof.Output

end
-- ==== Proof.Run.lean ====
/- The idealized kernel's run: what the result buffer holds when @main has ended, as the contents its third
   kernel call leaves, and the argument arrays unchanged. -/
module

public import proofs.«01_k».proof.Proof.Gen.KernelIdeal.Frame

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The result buffer is the output array of the third kernel call: it ends at that call's write-back. -/
theorem W5_result (m : (ℓ : Loc nD τ sig) → Buf (Elt F) ℓ) (ρ : Dev nD → PrngReg) (c : Dev nD) :
    W5 m ρ c (Proc.devRef .tc main_v36) = (dat2 (V4 m ρ) c).arrAt 1 cfg2.N :=
  W5_arr m ρ c 1

set_option backward.isDefEq.respectTransparency.types false in
/-- From any memory with zero counters every weakly fair execution of the idealized kernel terminates with the
    result buffer at `W5` (the contents after the three kernel calls) and the arguments as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v36) = W5 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v36 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.Proof.Run

end
-- ==== Proof.Fft.lean ====
/- What the first pallas_call leaves: the four-step transform of the weights, scaled. Each entry as sums over the two
   halves of the index, in the tables the host handed over. -/
module

public import proofs.«01_k».proof.Proof.Gen.KernelIdeal.Frame
public import proofs.«01_k».proof.Proof.Model
public import Idealize.ShloMosaic.Lib.Pointwise
public import Idealize.ShloMosaic.Lib.Pipeline.ValueKit

@[expose] public section

set_option maxRecDepth 16384

noncomputable section

namespace Cert.Proof.Fft

open Idealize.ShloMosaic Cert.KernelIdeal Cert.KernelIdeal.Gen

/-- A square table. -/
abbrev Tab := Fin 256 → Fin 256 → EReal

/-- The entries of a block. -/
def tab (x : FVec Ideal S256x256 .f32) : Tab := fun j k => x (ix2 j k)

/-- The two scales. -/
def scl (x : FVec Ideal S2x1 .f32) (i : Fin 2) : EReal := x (ix2 i 0)

/-- A table applied to the columns of the weights: the first, short transform. -/
def cols (T A : Tab) (k n : Fin 256) : EReal := ∑ j, T k j * A j n

/-- The first transform turned by the twiddles: real part. -/
def turnR (A C S P Q : Tab) (k n : Fin 256) : EReal := cols C A k n * P k n - cols S A k n * Q k n

/-- The first transform turned by the twiddles: imaginary part. -/
def turnI (A C S P Q : Tab) (k n : Fin 256) : EReal := cols C A k n * Q k n + cols S A k n * P k n

/-- The second transform: real part of the entry at row `a`, column `b`. -/
def fourR (A C S P Q : Tab) (a b : Fin 256) : EReal :=
  (∑ n, C n a * turnR A C S P Q b n) - ∑ n, S n a * turnI A C S P Q b n

/-- The second transform: imaginary part of the entry at row `a`, column `b`. -/
def fourI (A C S P Q : Tab) (a b : Fin 256) : EReal :=
  (∑ n, S n a * turnR A C S P Q b n) + ∑ n, C n a * turnI A C S P Q b n

variable (x0 x1 x2 x3 x4 : FVec Ideal S256x256 .f32) (x5 : FVec Ideal S2x1 .f32)

/-- The turned real part of the kernel's text. -/
theorem pay7_at (k n : Fin 256) :
    k0_pay7 (F := Ideal) x0 x1 x2 x3 x4 (ix2 k n) = turnR (tab x0) (tab x1) (tab x2) (tab x3) (tab x4) k n := by
  unfold_payloads
  pointwise
  rfl

/-- The turned imaginary part of the kernel's text. -/
theorem pay8_at (k n : Fin 256) :
    k0_pay8 (F := Ideal) x0 x1 x2 x3 x4 (ix2 k n) = turnI (tab x0) (tab x1) (tab x2) (tab x3) (tab x4) k n := by
  unfold_payloads
  pointwise
  rfl

/-- A load of the whole block. -/
theorem ld_whole (x : Vec Ideal S256x256 .f32) : (View.ld x r0_0 : Vec Ideal S256x256 .f32) = x := by
  funext j
  idx_vars j
  pointwise

/-- The block of real parts. -/
theorem out6_at (a b : Fin 256) : out0_6 (F := Ideal) x0 x1 x2 x3 x4 x5 (ix2 a b)
    = x5 (ix2 0 0) * fourR (tab x0) (tab x1) (tab x2) (tab x3) (tab x4) a b := by
  unfold out0_6
  rw [View.canon_unit_zero (by funext a; fin_cases a <;> rfl)]
  pointwise [k0_pay9, k0_pay1, k0_pay2]
  simp only [ld_whole, pay7_at, pay8_at]
  rfl

/-- The block of imaginary parts. -/
theorem out7_at (a b : Fin 256) : out0_7 (F := Ideal) x0 x1 x2 x3 x4 x5 (ix2 a b)
    = x5 (ix2 1 0) * fourI (tab x0) (tab x1) (tab x2) (tab x3) (tab x4) a b := by
  unfold out0_7
  rw [View.canon_unit_zero (by funext a; fin_cases a <;> rfl)]
  pointwise [k0_pay10, k0_pay1, k0_pay2]
  simp only [ld_whole, pay7_at, pay8_at]
  rfl

variable (V : (c : Dev nD) → (b : Ref sig .tc) → Buf (Elt Ideal) ((c.tc : Thread nD τ).loc b)) (c : Dev nD)

/-- The call sees the whole of the weights. -/
theorem read0 : (iblk0 V c 0 t0_0 : FVec Ideal S256x256 .f32) = V c main_arg0 := by
  have := (by decide +kernel : ∀ t : Fin grid0.N, win0_0.index t = ![0, 0]) t0_0
  blk_ext! [iblk0, this]

/-- The call sees the whole of the table of cosines. -/
theorem read1 : (iblk0 V c 1 t0_0 : FVec Ideal S256x256 .f32) = V c main_v20 := by
  have := (by decide +kernel : ∀ t : Fin grid0.N, win0_1.index t = ![0, 0]) t0_0
  blk_ext! [iblk0, this]

/-- The call sees the whole of the table of negated sines. -/
theorem read2 : (iblk0 V c 2 t0_0 : FVec Ideal S256x256 .f32) = V c main_v22 := by
  have := (by decide +kernel : ∀ t : Fin grid0.N, win0_2.index t = ![0, 0]) t0_0
  blk_ext! [iblk0, this]

/-- The call sees the whole of the twiddle cosines. -/
theorem read3 : (iblk0 V c 3 t0_0 : FVec Ideal S256x256 .f32) = V c main_v23 := by
  have := (by decide +kernel : ∀ t : Fin grid0.N, win0_3.index t = ![0, 0]) t0_0
  blk_ext! [iblk0, this]

/-- The call sees the whole of the negated twiddle sines. -/
theorem read4 : (iblk0 V c 4 t0_0 : FVec Ideal S256x256 .f32) = V c main_v25 := by
  have := (by decide +kernel : ∀ t : Fin grid0.N, win0_4.index t = ![0, 0]) t0_0
  blk_ext! [iblk0, this]

/-- The call sees the whole of the two scales. -/
theorem read5 : (iblk0 V c 5 t0_0 : FVec Ideal S2x1 .f32) = V c main_v3 := by
  have := (by decide +kernel : ∀ t : Fin grid0.N, win0_5.index t = ![0, 0]) t0_0
  blk_ext! [iblk0, this]

/-- The array of real parts. -/
theorem final6 : (dat0 V c).arrAt 6 cfg0.N
    = (fun j => scl (V c main_v3) 0
        * fourR (tab (V c main_arg0)) (tab (V c main_v20)) (tab (V c main_v22)) (tab (V c main_v23)) (tab (V c main_v25)) (j 0) (j 1)
        : FVec Ideal S256x256 .f32) := by
  refine (dat0 V c).arrAt_eq_of_after_last 6 t0_0 (by decide +kernel) _ fun j => ?_
  blk_simp
  rw [after0_6]
  idx_vars j
  exact (out6_at _ _ _ _ _ _ j0 j1).trans (by rw [read0, read1, read2, read3, read4, read5]; rfl)

/-- The array of imaginary parts. -/
theorem final7 : (dat0 V c).arrAt 7 cfg0.N
    = (fun j => scl (V c main_v3) 1
        * fourI (tab (V c main_arg0)) (tab (V c main_v20)) (tab (V c main_v22)) (tab (V c main_v23)) (tab (V c main_v25)) (j 0) (j 1)
        : FVec Ideal S256x256 .f32) := by
  refine (dat0 V c).arrAt_eq_of_after_last 7 t0_0 (by decide +kernel) _ fun j => ?_
  blk_simp
  rw [after0_7]
  idx_vars j
  exact (out7_at _ _ _ _ _ _ j0 j1).trans (by rw [read0, read1, read2, read3, read4, read5]; rfl)

end Cert.Proof.Fft

end
-- ==== Proof.Angle.lean ====
/- The angles: the host's constant for pi, the powers of two beside it, and the products of indices turned to reals. -/
module

public import proofs.«01_k».proof.Proof.Gen.KernelIdeal.Frame
public import Idealize.ShloMosaic.Lib.Pointwise
public import Mathlib.Analysis.SpecialFunctions.Trigonometric.Basic

@[expose] public section

set_option maxRecDepth 16384

noncomputable section

namespace Cert.Proof.Angle

open Idealize.ShloMosaic

/-- The angle of the point `(-1, 0)` is pi. -/
theorem pi_eq : Ideal.atan2 0 (Ideal.ofBits .f32 3212836864#32) = ((Real.pi : ℝ) : EReal) := by
  have e : Ideal.ofBits .f32 3212836864#32 = ((-1 : ℝ) : EReal) := by
    simp [Ideal.ofBits, Ideal.ieee]
    rw [← EReal.coe_mul]
    norm_num
  rw [e]
  show ((if (0 : ℝ) < -1 then _ else if (-1 : ℝ) < 0 then (if (0 : ℝ) ≤ 0 then Real.arctan (0 / -1) + Real.pi else _) else _ : ℝ) : EReal) = _
  norm_num

/-- The word of `2⁻⁷`. -/
theorem scale7 : Ideal.ofBits .f32 1006632960#32 = ((1 / 128 : ℝ) : EReal) := by
  simp [Ideal.ofBits, Ideal.ieee]
  rw [← EReal.coe_mul]
  norm_num

/-- The word of `2⁻¹⁵`. -/
theorem scale15 : Ideal.ofBits .f32 939524096#32 = ((1 / 32768 : ℝ) : EReal) := by
  simp [Ideal.ofBits, Ideal.ieee]
  rw [← EReal.coe_mul]
  norm_num

/-- A small word turned to a real. -/
theorem toInt_small (n : ℕ) (h : n < 2 ^ 31) : (BitVec.ofNat 32 n).toInt = (n : ℤ) := by
  rw [BitVec.toInt_eq_toNat_of_lt] <;> rw [BitVec.toNat_ofNat, Nat.mod_eq_of_lt (by omega)]
  omega

/-- A product of short indices, taken modulo 256. -/
theorem prod_and (j k : Fin 256) :
    (FloatOps.sitofp .f32 (IntOp.andi (IntOp.muli (BitVec.ofNat 32 j) (BitVec.ofNat 32 k)) 255#32) : Ideal .f32)
      = (((j.1 * k.1 % 256 : ℕ) : ℝ) : EReal) := by
  show (((IntOp.andi (IntOp.muli (BitVec.ofNat 32 j) (BitVec.ofNat 32 k)) 255#32).toInt : ℝ) : EReal) = _
  have h : (IntOp.andi (IntOp.muli (BitVec.ofNat 32 j) (BitVec.ofNat 32 k)) 255#32) = BitVec.ofNat 32 (j.1 * k.1 % 256) := by
    apply BitVec.eq_of_toNat_eq
    have hb : j.1 * k.1 < 65536 := by nlinarith [j.2, k.2]
    simp only [IntOp.andi, IntOp.muli, BitVec.toNat_and, BitVec.toNat_mul, BitVec.toNat_ofNat]
    rw [show (255 % 2 ^ 32 : ℕ) = 2 ^ 8 - 1 from rfl, Nat.and_two_pow_sub_one_eq_mod]
    rw [Nat.mod_eq_of_lt (a := j.1) (by omega), Nat.mod_eq_of_lt (a := k.1) (by omega)]
    omega
  rw [h, toInt_small _ (by omega)]
  rfl

/-- A product of short indices. -/
theorem prod (j k : Fin 256) :
    (FloatOps.sitofp .f32 (IntOp.muli (BitVec.ofNat 32 j) (BitVec.ofNat 32 k)) : Ideal .f32)
      = (((j.1 * k.1 : ℕ) : ℝ) : EReal) := by
  show (((IntOp.muli (BitVec.ofNat 32 j) (BitVec.ofNat 32 k)).toInt : ℝ) : EReal) = _
  have hb : j.1 * k.1 < 65536 := by nlinarith [j.2, k.2]
  have h : IntOp.muli (BitVec.ofNat 32 j) (BitVec.ofNat 32 k) = BitVec.ofNat 32 (j.1 * k.1) := by
    apply BitVec.eq_of_toNat_eq
    simp only [IntOp.muli, BitVec.toNat_mul, BitVec.toNat_ofNat]
    rw [Nat.mod_eq_of_lt (a := j.1) (by omega), Nat.mod_eq_of_lt (a := k.1) (by omega)]
  rw [h, toInt_small _ (by omega)]
  rfl

/-- A product of long indices, taken modulo 65536: the word's product may wrap, and its low sixteen bits do not. -/
theorem prod_and_long (j k : Fin 65536) :
    (FloatOps.sitofp .f32 (IntOp.andi (IntOp.muli (BitVec.ofNat 32 j) (BitVec.ofNat 32 k)) 65535#32) : Ideal .f32)
      = (((j.1 * k.1 % 65536 : ℕ) : ℝ) : EReal) := by
  show (((IntOp.andi (IntOp.muli (BitVec.ofNat 32 j) (BitVec.ofNat 32 k)) 65535#32).toInt : ℝ) : EReal) = _
  have h : (IntOp.andi (IntOp.muli (BitVec.ofNat 32 j) (BitVec.ofNat 32 k)) 65535#32)
      = BitVec.ofNat 32 (j.1 * k.1 % 65536) := by
    apply BitVec.eq_of_toNat_eq
    simp only [IntOp.andi, IntOp.muli, BitVec.toNat_and, BitVec.toNat_mul, BitVec.toNat_ofNat]
    rw [show (65535 % 2 ^ 32 : ℕ) = 2 ^ 16 - 1 from rfl, Nat.and_two_pow_sub_one_eq_mod]
    rw [Nat.mod_eq_of_lt (a := j.1) (by omega), Nat.mod_eq_of_lt (a := k.1) (by omega)]
    omega
  rw [h, toInt_small _ (by omega)]
  rfl

/-- Angles a whole number of turns apart: reducing the numerator modulo the denominator changes no cosine. -/
theorem cos_mod (n q : ℕ) (hq : q ≠ 0) : Real.cos (2 * Real.pi * ((n % q : ℕ) : ℝ) / q) = Real.cos (2 * Real.pi * n / q) := by
  have hq' : (q : ℝ) ≠ 0 := by exact_mod_cast hq
  have e : 2 * Real.pi * n / q = 2 * Real.pi * ((n % q : ℕ) : ℝ) / q + (n / q : ℕ) * (2 * Real.pi) := by
    have : (n : ℝ) = ((n % q : ℕ) : ℝ) + q * (n / q : ℕ) := by exact_mod_cast (Nat.mod_add_div n q).symm
    field_simp
    rw [this]
  rw [e, Real.cos_add_nat_mul_two_pi]

/-- The same of sines. -/
theorem sin_mod (n q : ℕ) (hq : q ≠ 0) : Real.sin (2 * Real.pi * ((n % q : ℕ) : ℝ) / q) = Real.sin (2 * Real.pi * n / q) := by
  have hq' : (q : ℝ) ≠ 0 := by exact_mod_cast hq
  have e : 2 * Real.pi * n / q = 2 * Real.pi * ((n % q : ℕ) : ℝ) / q + (n / q : ℕ) * (2 * Real.pi) := by
    have : (n : ℝ) = ((n % q : ℕ) : ℝ) + q * (n / q : ℕ) := by exact_mod_cast (Nat.mod_add_div n q).symm
    field_simp
    rw [this]
  rw [e, Real.sin_add_nat_mul_two_pi]

/-- The short angle: `2 π (j k mod 256) / 256`. -/
theorem short (j k : Fin 256) :
    Ideal.atan2 0 (Ideal.ofBits .f32 3212836864#32) * Ideal.ofBits .f32 1006632960#32
        * (FloatOps.sitofp .f32 (IntOp.andi (IntOp.muli (BitVec.ofNat 32 j) (BitVec.ofNat 32 k)) 255#32) : Ideal .f32)
      = ((2 * Real.pi * ((j.1 * k.1 % 256 : ℕ) : ℝ) / (256 : ℕ) : ℝ) : EReal) := by
  rw [pi_eq, scale7, prod_and, ← EReal.coe_mul, ← EReal.coe_mul]
  congr 1
  push_cast
  ring

/-- The twiddle angle: `2 π j k / 65536`. -/
theorem twiddle (j k : Fin 256) :
    Ideal.atan2 0 (Ideal.ofBits .f32 3212836864#32) * Ideal.ofBits .f32 939524096#32
        * (FloatOps.sitofp .f32 (IntOp.muli (BitVec.ofNat 32 j) (BitVec.ofNat 32 k)) : Ideal .f32)
      = ((2 * Real.pi * ((j.1 * k.1 : ℕ) : ℝ) / (65536 : ℕ) : ℝ) : EReal) := by
  rw [pi_eq, scale15, prod, ← EReal.coe_mul, ← EReal.coe_mul]
  congr 1
  push_cast
  ring

/-- The long angle: `2 π (j k mod 65536) / 65536`. -/
theorem long (j k : Fin 65536) :
    Ideal.atan2 0 (Ideal.ofBits .f32 3212836864#32) * Ideal.ofBits .f32 939524096#32
        * (FloatOps.sitofp .f32 (IntOp.andi (IntOp.muli (BitVec.ofNat 32 j) (BitVec.ofNat 32 k)) 65535#32) : Ideal .f32)
      = ((2 * Real.pi * ((j.1 * k.1 % 65536 : ℕ) : ℝ) / (65536 : ℕ) : ℝ) : EReal) := by
  rw [pi_eq, scale15, prod_and_long, ← EReal.coe_mul, ← EReal.coe_mul]
  congr 1
  push_cast
  ring

end Cert.Proof.Angle

end
-- ==== Proof.Dft.lean ====
/- The four-step transform is the discrete Fourier transform: with the tables of cosines and negated sines, the entry at
   row `a` and column `b` is the sum over all indices against the wave of frequency `256 a + b`. -/
module

public import proofs.«01_k».proof.Proof.Fft
public import proofs.«01_k».proof.Proof.Angle
public import Idealize.ShloMosaic.Lib.Pointwise

@[expose] public section

set_option maxRecDepth 16384

noncomputable section

namespace Cert.Proof.Dft

open Idealize.ShloMosaic

/-- A finite sum of reals, as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The angle of `n` of `q` parts of a turn. -/
def ang (q n : ℕ) : ℝ := 2 * Real.pi * (n : ℝ) / (q : ℕ)

/-- A table of reals, as extended reals. -/
def up (f : Fin 256 → Fin 256 → ℝ) : Fft.Tab := fun j k => ((f j k : ℝ) : EReal)

/-- Twiddled column sums: real part. -/
theorem turnR_coe (A : Fin 256 → Fin 256 → ℝ) (k n : Fin 256) :
    Fft.turnR (up A) (up fun j k => Real.cos (ang 256 (j.1 * k.1))) (up fun j k => -Real.sin (ang 256 (j.1 * k.1)))
        (up fun j k => Real.cos (ang 65536 (j.1 * k.1))) (up fun j k => -Real.sin (ang 65536 (j.1 * k.1))) k n
      = ((∑ j, A j n * Real.cos (ang 256 (k.1 * j.1) + ang 65536 (k.1 * n.1)) : ℝ) : EReal) := by
  simp only [Fft.turnR, Fft.cols, up, ← EReal.coe_mul, ← coe_sum, ← EReal.coe_sub]
  congr 1
  rw [Finset.sum_mul, Finset.sum_mul, ← Finset.sum_sub_distrib]
  refine Finset.sum_congr rfl fun j _ => ?_
  rw [Real.cos_add]
  ring

/-- Twiddled column sums: imaginary part. -/
theorem turnI_coe (A : Fin 256 → Fin 256 → ℝ) (k n : Fin 256) :
    Fft.turnI (up A) (up fun j k => Real.cos (ang 256 (j.1 * k.1))) (up fun j k => -Real.sin (ang 256 (j.1 * k.1)))
        (up fun j k => Real.cos (ang 65536 (j.1 * k.1))) (up fun j k => -Real.sin (ang 65536 (j.1 * k.1))) k n
      = ((∑ j, A j n * -Real.sin (ang 256 (k.1 * j.1) + ang 65536 (k.1 * n.1)) : ℝ) : EReal) := by
  simp only [Fft.turnI, Fft.cols, up, ← EReal.coe_mul, ← coe_sum, ← EReal.coe_add]
  congr 1
  rw [Finset.sum_mul, Finset.sum_mul, ← Finset.sum_add_distrib]
  refine Finset.sum_congr rfl fun j _ => ?_
  rw [Real.sin_add]
  ring

/-- The three angles of the four-step transform add up to the long angle, whole turns apart. -/
theorem ang_split (n1 n2 a b : ℕ) : ang 65536 ((256 * n1 + n2) * (256 * a + b))
    = ang 256 (n2 * a) + (ang 256 (b * n1) + ang 65536 (b * n2)) + (n1 * a : ℕ) * (2 * Real.pi) := by
  unfold ang
  push_cast
  ring

/-- The index `256 j + n`. -/
def at2 (j n : Fin 256) : Fin 65536 := ⟨256 * j.1 + n.1, by omega⟩

/-- A sum over all indices, by their two halves. -/
theorem sum_halves (f : Fin 65536 → ℝ) : ∑ i, f i = ∑ n, ∑ j, f (at2 j n) := by
  have e := Fintype.sum_prod_type (fun p : Fin 256 × Fin 256 => f (at2 p.1 p.2))
  rw [Finset.sum_comm]
  refine Eq.trans ?_ e
  refine (Fintype.sum_equiv (⟨fun p => at2 p.1 p.2, fun i => (⟨i.1 / 256, by omega⟩, ⟨i.1 % 256, by omega⟩), ?_, ?_⟩ :
    Fin 256 × Fin 256 ≃ Fin 65536) (fun p => f (at2 p.1 p.2)) f fun p => rfl).symm
  · rintro ⟨j, n⟩
    refine Prod.ext (Fin.ext ?_) (Fin.ext ?_) <;> simp only [at2] <;> omega
  · intro i
    refine Fin.ext ?_
    simp only [at2]
    omega

/-- The real part of the transform of reals `w`. -/
def re (w : Fin 65536 → ℝ) (k : ℕ) : ℝ := ∑ n, w n * Real.cos (ang 65536 (n.1 * k))

/-- The imaginary part of the transform of reals `w`. -/
def im (w : Fin 65536 → ℝ) (k : ℕ) : ℝ := -∑ n, w n * Real.sin (ang 65536 (n.1 * k))

/-- The four-step transform's real part. -/
theorem four_re (w : Fin 65536 → ℝ) (a b : Fin 256) :
    Fft.fourR (up fun j n => w (at2 j n)) (up fun j k => Real.cos (ang 256 (j.1 * k.1)))
        (up fun j k => -Real.sin (ang 256 (j.1 * k.1)))
        (up fun j k => Real.cos (ang 65536 (j.1 * k.1))) (up fun j k => -Real.sin (ang 65536 (j.1 * k.1))) a b
      = ((re w (256 * a.1 + b.1) : ℝ) : EReal) := by
  simp only [Fft.fourR, turnR_coe, turnI_coe]
  simp only [up, ← EReal.coe_mul, ← coe_sum, ← EReal.coe_sub]
  refine congrArg _ ?_
  rw [re, sum_halves, ← Finset.sum_sub_distrib]
  refine Finset.sum_congr rfl fun n _ => ?_
  rw [Finset.mul_sum, Finset.mul_sum, ← Finset.sum_sub_distrib]
  refine Finset.sum_congr rfl fun j _ => ?_
  rw [show (at2 j n).1 = 256 * j.1 + n.1 from rfl, ang_split, Real.cos_add_nat_mul_two_pi, Real.cos_add (ang 256 (n.1 * a.1))]
  ring

/-- The four-step transform's imaginary part. -/
theorem four_im (w : Fin 65536 → ℝ) (a b : Fin 256) :
    Fft.fourI (up fun j n => w (at2 j n)) (up fun j k => Real.cos (ang 256 (j.1 * k.1)))
        (up fun j k => -Real.sin (ang 256 (j.1 * k.1)))
        (up fun j k => Real.cos (ang 65536 (j.1 * k.1))) (up fun j k => -Real.sin (ang 65536 (j.1 * k.1))) a b
      = ((im w (256 * a.1 + b.1) : ℝ) : EReal) := by
  simp only [Fft.fourI, turnR_coe, turnI_coe]
  simp only [up, ← EReal.coe_mul, ← coe_sum, ← EReal.coe_add]
  refine congrArg _ ?_
  rw [im, sum_halves, ← Finset.sum_add_distrib, ← Finset.sum_neg_distrib]
  refine Finset.sum_congr rfl fun n _ => ?_
  rw [Finset.mul_sum, Finset.mul_sum, ← Finset.sum_add_distrib, ← Finset.sum_neg_distrib]
  refine Finset.sum_congr rfl fun j _ => ?_
  rw [show (at2 j n).1 = 256 * j.1 + n.1 from rfl, ang_split, Real.sin_add_nat_mul_two_pi, Real.sin_add (ang 256 (n.1 * a.1))]
  ring

end Cert.Proof.Dft

end
-- ==== Proof.Host.lean ====
/- What the kernel's host code hands to its pallas_calls: the tables of cosines and sines, the two scales, and the
   network's weights with their bias rows. -/
module

public import proofs.«01_k».proof.Proof.Gen.KernelIdeal.Frame
public import proofs.«01_k».proof.Proof.Model
public import proofs.«01_k».proof.Proof.Angle
public import Idealize.ShloMosaic.Lib.Pointwise
public import Idealize.ShloMosaic.Lib.Pipeline.ValueKit

@[expose] public section

set_option maxRecDepth 16384

noncomputable section

namespace Cert.Proof.Host

open Idealize.ShloMosaic Idealize.ShloMosaic.StableHlo Cert.KernelIdeal Cert.KernelIdeal.Gen

variable (m : (ℓ : Loc nD τ sig) → Buf (Elt Ideal) ℓ) (ρ : Dev nD → PrngReg) (c : Dev nD)

/-- The table of cosines. -/
theorem cos_short (j k : Fin 256) : (W1 m ρ c (Proc.devRef .tc main_v20) : FVec Ideal S256x256 .f32) (ix2 j k)
    = (((Real.cos (2 * Real.pi * ((j.1 * k.1 : ℕ) : ℝ) / (256 : ℕ)) : ℝ) : EReal) : Ideal .f32) := by
  dsimp only [W1, hostOps0]
  after_results
  pointwise
  rw [Angle.short, Ideal.cos_coe, Angle.cos_mod _ _ (by norm_num)]

/-- The table of negated sines. -/
theorem sin_short (j k : Fin 256) : (W1 m ρ c (Proc.devRef .tc main_v22) : FVec Ideal S256x256 .f32) (ix2 j k)
    = (((-Real.sin (2 * Real.pi * ((j.1 * k.1 : ℕ) : ℝ) / (256 : ℕ)) : ℝ) : EReal) : Ideal .f32) := by
  dsimp only [W1, hostOps0]
  after_results
  pointwise
  rw [Angle.short, Ideal.sin_coe, Angle.sin_mod _ _ (by norm_num)]
  rfl

/-- The twiddles' cosines. -/
theorem cos_twiddle (j k : Fin 256) : (W1 m ρ c (Proc.devRef .tc main_v23) : FVec Ideal S256x256 .f32) (ix2 j k)
    = (((Real.cos (2 * Real.pi * ((j.1 * k.1 : ℕ) : ℝ) / (65536 : ℕ)) : ℝ) : EReal) : Ideal .f32) := by
  dsimp only [W1, hostOps0]
  after_results
  pointwise
  rw [Angle.twiddle, Ideal.cos_coe]

/-- The twiddles' negated sines. -/
theorem sin_twiddle (j k : Fin 256) : (W1 m ρ c (Proc.devRef .tc main_v25) : FVec Ideal S256x256 .f32) (ix2 j k)
    = (((-Real.sin (2 * Real.pi * ((j.1 * k.1 : ℕ) : ℝ) / (65536 : ℕ)) : ℝ) : EReal) : Ideal .f32) := by
  dsimp only [W1, hostOps0]
  after_results
  pointwise
  rw [Angle.twiddle, Ideal.sin_coe]
  rfl

/-- The weights reach the first call as they came. -/
theorem weights : W1 m ρ c (Proc.devRef .tc main_arg0) = m ((c.tc : Thread nD τ).loc main_arg0) := by
  dsimp only [W1, hostOps0]
  after_results

/-- The first scale. -/
theorem scale_re : (W1 m ρ c (Proc.devRef .tc main_v3) : FVec Ideal S2x1 .f32) (ix2 0 0)
    = (m ((c.tc : Thread nD τ).loc main_arg7) : FVec Ideal S_ .f32) ix0 := by
  dsimp only [W1, hostOps0]
  after_results
  pointwise

/-- The second scale. -/
theorem scale_im : (W1 m ρ c (Proc.devRef .tc main_v3) : FVec Ideal S2x1 .f32) (ix2 1 0)
    = (m ((c.tc : Thread nD τ).loc main_arg8) : FVec Ideal S_ .f32) ix0 := by
  dsimp only [W1, hostOps0]
  after_results
  pointwise

/-- The input weights. -/
theorem wi (k : Fin 4) (o : Fin 64) :
    (W3 m ρ c (Proc.devRef .tc main_v30) : FVec Ideal S5x64 .f32) (ix2 ⟨k.1, by omega⟩ o)
      = (m ((c.tc : Thread nD τ).loc main_arg1) : FVec Ideal S4x64 .f32) (ix2 k o) := by
  dsimp only [W3, hostOps1]
  after_results
  pointwise
  rw [W2_args m ρ c main_arg1 (by decide)]

/-- The input bias. -/
theorem bi (o : Fin 64) :
    (W3 m ρ c (Proc.devRef .tc main_v30) : FVec Ideal S5x64 .f32) (ix2 4 o)
      = (m ((c.tc : Thread nD τ).loc main_arg2) : FVec Ideal S64 .f32) (ix1 o) := by
  dsimp only [W3, hostOps1]
  after_results
  pointwise
  rw [W2_args m ρ c main_arg2 (by decide)]

/-- The layers' weights. -/
theorem wl (l : Fin 4) (k o : Fin 64) :
    (W3 m ρ c (Proc.devRef .tc main_v32) : FVec Ideal S4x65x64 .f32) (ix3 l ⟨k.1, by omega⟩ o)
      = (m ((c.tc : Thread nD τ).loc main_arg3) : FVec Ideal S4x64x64 .f32) (ix3 l k o) := by
  dsimp only [W3, hostOps1]
  after_results
  pointwise
  rw [W2_args m ρ c main_arg3 (by decide)]

/-- The layers' biases. -/
theorem bl (l : Fin 4) (o : Fin 64) :
    (W3 m ρ c (Proc.devRef .tc main_v32) : FVec Ideal S4x65x64 .f32) (ix3 l 64 o)
      = (m ((c.tc : Thread nD τ).loc main_arg4) : FVec Ideal S4x64 .f32) (ix2 l o) := by
  dsimp only [W3, hostOps1]
  after_results
  pointwise
  rw [W2_args m ρ c main_arg4 (by decide)]

/-- The output weights. -/
theorem wo (k : Fin 64) (o : Fin 4) :
    (W3 m ρ c (Proc.devRef .tc main_v34) : FVec Ideal S65x4 .f32) (ix2 ⟨k.1, by omega⟩ o)
      = (m ((c.tc : Thread nD τ).loc main_arg5) : FVec Ideal S64x4 .f32) (ix2 k o) := by
  dsimp only [W3, hostOps1]
  after_results
  pointwise
  rw [W2_args m ρ c main_arg5 (by decide)]

/-- The output bias. -/
theorem bo (o : Fin 4) :
    (W3 m ρ c (Proc.devRef .tc main_v34) : FVec Ideal S65x4 .f32) (ix2 64 o)
      = (m ((c.tc : Thread nD τ).loc main_arg6) : FVec Ideal S4 .f32) (ix1 o) := by
  dsimp only [W3, hostOps1]
  after_results
  pointwise
  rw [W2_args m ρ c main_arg6 (by decide)]

/-- The real parts laid out as a row. -/
theorem row_re (i : Fin 65536) : (W3 m ρ c (Proc.devRef .tc main_v27) : FVec Ideal S1x65536 .f32) (ix2 0 i)
    = (W2 m ρ c (Proc.devRef .tc main_v26_0) : FVec Ideal S256x256 .f32) (ix2 ⟨i.1 / 256, by omega⟩ ⟨i.1 % 256, by omega⟩) := by
  dsimp only [W3, hostOps1]
  after_results
  pointwise

/-- The imaginary parts laid out as a row. -/
theorem row_im (i : Fin 65536) : (W3 m ρ c (Proc.devRef .tc main_v28) : FVec Ideal S1x65536 .f32) (ix2 0 i)
    = (W2 m ρ c (Proc.devRef .tc main_v26_1) : FVec Ideal S256x256 .f32) (ix2 ⟨i.1 / 256, by omega⟩ ⟨i.1 % 256, by omega⟩) := by
  dsimp only [W3, hostOps1]
  after_results
  pointwise

end Cert.Proof.Host

end
-- ==== Proof.Layer.lean ====
/- One step of message passing as the kernel computes it on a block with its halo: the neighbour sum by shifted copies,
   the division by the degree, and the product with the weights and the bias row. -/
module

public import proofs.«01_k».proof.Proof.Gen.KernelIdeal.Frame
public import proofs.«01_k».proof.Proof.Model
public import Idealize.ShloMosaic.Lib.Pointwise

@[expose] public section

set_option maxRecDepth 16384

noncomputable section

namespace Cert.Proof.Layer

open Idealize.ShloMosaic Cert.KernelIdeal Cert.KernelIdeal.Gen

/-- A block of hidden states with its halo. -/
abbrev Block := FVec Ideal S64x16416 .f32

/-- The block shifted by one position. -/
def roll1 (v : Block) : Block :=
  concatenate S64x16416 1 [⟨S64x16415, extractStridedSlice S64x16415 ![0, 1] v slices_S64x16416_o0_1_S64x16415⟩,
    ⟨S64x1, extractStridedSlice S64x1 ![0, 0] v slices_S64x16416_o0_0_S64x1⟩] concatenates_S64x16415_S64x1_S64x16416_d1

/-- The block shifted by two positions. -/
def roll2 (v : Block) : Block :=
  concatenate S64x16416 1 [⟨S64x16414, extractStridedSlice S64x16414 ![0, 2] v slices_S64x16416_o0_2_S64x16414⟩,
    ⟨S64x2, extractStridedSlice S64x2 ![0, 0] v slices_S64x16416_o0_0_S64x2⟩] concatenates_S64x16414_S64x2_S64x16416_d1

/-- The block shifted back by four positions. -/
def back4 (v : Block) : Block :=
  concatenate S64x16416 1 [⟨S64x4, extractStridedSlice S64x4 ![0, 16412] v slices_S64x16416_o0_16412_S64x4⟩,
    ⟨S64x16412, extractStridedSlice S64x16412 ![0, 0] v slices_S64x16416_o0_0_S64x16412⟩]
    concatenates_S64x4_S64x16412_S64x16416_d1

/-- The shift by one, away from the end of the block. -/
theorem roll1_at (v : Block) (o : Fin 64) (p : Fin 16416) (hp : p.1 + 1 < 16416) :
    roll1 v (ix2 o p) = v (ix2 o ⟨p.1 + 1, hp⟩) := by
  pointwise [roll1]
  rw [dif_pos (by omega)]; congr 2; exact Fin.ext (Nat.add_comm _ _)

/-- The shift by two, away from the end of the block. -/
theorem roll2_at (v : Block) (o : Fin 64) (p : Fin 16416) (hp : p.1 + 2 < 16416) :
    roll2 v (ix2 o p) = v (ix2 o ⟨p.1 + 2, hp⟩) := by
  pointwise [roll2]
  rw [dif_pos (by omega)]; congr 2; exact Fin.ext (Nat.add_comm _ _)

/-- The shift back by four, away from the start of the block. -/
theorem back4_at (v : Block) (o : Fin 64) (p : Fin 16416) (hp : 4 ≤ p.1) :
    back4 v (ix2 o p) = v (ix2 o ⟨p.1 - 4, by omega⟩) := by
  pointwise [back4]
  rw [dif_neg (by omega)]

/-- Runs of four positions summed. -/
def four (v : Block) : Block := addf (addf v (roll1 v)) (roll2 (addf v (roll1 v)))

/-- The sum over the eight neighbours. -/
def eight (v : Block) : Block := addf (back4 (four v)) (roll1 (four v))

/-- The block under the weights `w` and the bias row, cut off below at zero, and added to what it was. -/
def step (one : FVec Ideal S1x16416 .f32) (w : Vec Ideal S1x65x64 .f32) (v : Block) : Block :=
  addf (maximumf (matmul dot_S65x64_S65x16416_S64x16416_0_0_1_1_n_n none (shapeCast S65x64 w shapeCasts_S1x65x64_S65x64 : FVec Ideal S65x64 .f32)
    (concatenate S65x16416 0 [⟨S64x16416, divf (eight v) (broadcast S64x16416 (Named.named κ "degree" 0x41000001#32))⟩,
      ⟨S1x16416, one⟩] concatenates_S64x16416_S1x16416_S65x16416_d0) (constant S64x16416 .f32 0x00000000#32))
    (broadcast S64x16416 (Scalar.ofBits .f32 0x00000000#32))) v

/-- A run of four positions. -/
theorem four_at (v : Block) (o : Fin 64) (p : Fin 16416) (hp : p.1 + 3 < 16416) :
    four v (ix2 o p) = v (ix2 o p) + v (ix2 o ⟨p.1 + 1, by omega⟩)
      + (v (ix2 o ⟨p.1 + 2, by omega⟩) + v (ix2 o ⟨p.1 + 3, by omega⟩)) := by
  simp only [four, addf_apply, Ideal.addf_def]
  rw [roll2_at _ _ _ (by omega), roll1_at _ _ _ (by omega), addf_apply, Ideal.addf_def, roll1_at _ _ _ (by simp; omega)]

/-- The eight neighbours of a position away from both ends. -/
theorem eight_at (v : Block) (o : Fin 64) (p : Fin 16416) (h4 : 4 ≤ p.1) (hp : p.1 + 4 < 16416) :
    eight v (ix2 o p) = v (ix2 o ⟨p.1 - 4, by omega⟩) + v (ix2 o ⟨p.1 - 3, by omega⟩)
        + (v (ix2 o ⟨p.1 - 2, by omega⟩) + v (ix2 o ⟨p.1 - 1, by omega⟩))
      + (v (ix2 o ⟨p.1 + 1, by omega⟩) + v (ix2 o ⟨p.1 + 2, by omega⟩)
        + (v (ix2 o ⟨p.1 + 3, by omega⟩) + v (ix2 o ⟨p.1 + 4, by omega⟩))) := by
  simp only [eight, addf_apply, Ideal.addf_def]
  rw [back4_at _ _ _ h4, roll1_at _ _ _ (by omega), four_at _ _ _ (by simp; omega), four_at _ _ _ (by simp; omega)]
  have e1 : p.1 - 4 + 1 = p.1 - 3 := by omega
  have e2 : p.1 - 4 + 2 = p.1 - 2 := by omega
  have e3 : p.1 - 4 + 3 = p.1 - 1 := by omega
  simp only [e1, e2, e3, Nat.add_assoc, Nat.reduceAdd]

/-- The node that position `p` of a block starting at node `b` holds. -/
def pos (b : ℕ) (p : Fin 16416) : Fin 65536 := ⟨(b + p.1) % 65536, Nat.mod_lt _ (by decide)⟩

/-- The node `d` steps after the one that position `p` holds: position `q` holds it, where `q` is `p + d` around the ring. -/
theorem sh_pos (b d : ℕ) (p q : Fin 16416) (h : q.1 + 65536 = p.1 + d ∨ q.1 = p.1 + d) : sh (pos b p) d = pos b q := by
  apply Fin.ext
  simp only [sh, pos]
  omega

/-- The named divisor is the model's. -/
theorem named_degree : (Named.named κ "degree" 0x41000001#32 : Ideal .f32) = degree := rfl

/-- One step on a block: where the block holds the model's hidden states away from its ends, four positions further in it
    then holds those after the model's step. -/
theorem step_layer (net : Net) (l : Fin 4) (H : Fin 65536 → Fin 64 → EReal) (b lo : ℕ) (w : Vec Ideal S1x65x64 .f32)
    (v : Block) (hw : ∀ (k : Fin 64) (o : Fin 64), w (ix3 0 ⟨k.1, by omega⟩ o) = net.wl l k o)
    (hb : ∀ o : Fin 64, w (ix3 0 64 o) = net.bl l o)
    (hv : ∀ (o : Fin 64) (p : Fin 16416), lo ≤ p.1 → p.1 + lo < 16416 → v (ix2 o p) = H (pos b p) o)
    (o : Fin 64) (p : Fin 16416) (h0 : lo + 4 ≤ p.1) (h1 : p.1 + (lo + 4) < 16416) :
    step (k1_pay4 (F := Ideal)) w v (ix2 o p) = layer net l H (pos b p) o := by
  pointwise [step, k1_pay4]
  rw [hv o p (by omega) (by omega), layer, dense]
  simp only [hw, hb, named_degree, Finset.univ_unique, Finset.sum_singleton]
  congr 3
  refine Finset.sum_congr rfl fun k _ => ?_
  rw [mul_comm]
  congr 2
  rw [eight_at v k p (by omega) (by omega), around]
  rw [hv k _ (by simp; omega) (by simp; omega), hv k _ (by simp; omega) (by simp; omega),
    hv k _ (by simp; omega) (by simp; omega), hv k _ (by simp; omega) (by simp; omega),
    hv k _ (by simp; omega) (by simp; omega), hv k _ (by simp; omega) (by simp; omega),
    hv k _ (by simp; omega) (by simp; omega), hv k _ (by simp; omega) (by simp; omega)]
  rw [sh_pos b 65532 p ⟨p.1 - 4, by omega⟩ (by simp; omega), sh_pos b 65533 p ⟨p.1 - 3, by omega⟩ (by simp; omega),
    sh_pos b 65534 p ⟨p.1 - 2, by omega⟩ (by simp; omega), sh_pos b 65535 p ⟨p.1 - 1, by omega⟩ (by simp; omega),
    sh_pos b 1 p ⟨p.1 + 1, by omega⟩ (by simp), sh_pos b 2 p ⟨p.1 + 2, by omega⟩ (by simp),
    sh_pos b 3 p ⟨p.1 + 3, by omega⟩ (by simp), sh_pos b 4 p ⟨p.1 + 4, by omega⟩ (by simp)]

/-- The kernel's first two steps. -/
theorem pay10_eq (v : Block) (w0 w1 : Vec Ideal S1x65x64 .f32) :
    k1_pay10 (F := Ideal) k1_pay4 v (back4 (four v))
      (extractStridedSlice S64x16415 ![0, 1] (four v) slices_S64x16416_o0_1_S64x16415)
      (extractStridedSlice S64x1 ![0, 0] (four v) slices_S64x16416_o0_0_S64x1) w0 w1
      = step k1_pay4 w1 (step k1_pay4 w0 v) := rfl

/-- The kernel's last two steps and the product with the output weights. -/
theorem pay15_eq (v : Block) (w2 w3 : Vec Ideal S1x65x64 .f32) (wo : Vec Ideal S65x4 .f32) :
    k1_pay15 (F := Ideal) k1_pay4 v (back4 (four v))
      (extractStridedSlice S64x16415 ![0, 1] (four v) slices_S64x16416_o0_1_S64x16415)
      (extractStridedSlice S64x1 ![0, 0] (four v) slices_S64x16416_o0_0_S64x1) w2 w3 wo
      = matmul dot_S65x4_S65x16416_S4x16416_0_0_1_1_n_n none (shapeCast S65x4 wo shapeCasts_S65x4_S65x4 : FVec Ideal S65x4 .f32)
          (concatenate S65x16416 0 [⟨S64x16416, step k1_pay4 w3 (step k1_pay4 w2 v)⟩, ⟨S1x16416, k1_pay4 (F := Ideal)⟩]
            concatenates_S64x16416_S1x16416_S65x16416_d0 : FVec Ideal S65x16416 .f32) (constant S4x16416 .f32 0x00000000#32) := rfl

end Cert.Proof.Layer

end
-- ==== Proof.Block.lean ====
/- What the network's kernel writes for one block: the residual spectrum and the predicted one at the nodes of the block. -/
module

public import proofs.«01_k».proof.Proof.Layer
public import Idealize.ShloMosaic.Lib.Pipeline.ValueKit

@[expose] public section

set_option maxRecDepth 16384

noncomputable section

namespace Cert.Proof.Block

open Idealize.ShloMosaic Cert.KernelIdeal Cert.KernelIdeal.Gen Cert.Proof.Layer

/-- The first hidden state of a position, where the block with its halo holds the spectrum there. -/
theorem pay5_at (net : Net) (hr hi : Row) (b : ℕ) (a0 : Vec Ideal S1x16 .f32) (a1 : Vec Ideal S1x16384 .f32)
    (a2 a3 : Vec Ideal S1x16 .f32) (a4 : Vec Ideal S1x16384 .f32) (a5 : Vec Ideal S1x16 .f32) (w : Vec Ideal S5x64 .f32)
    (hR : ∀ p, k1_pay2 a0 a1 a2 (ix2 0 p) = hr (pos b p)) (hI : ∀ p, k1_pay3 a3 a4 a5 (ix2 0 p) = hi (pos b p))
    (hw : ∀ (k : Fin 4) (o : Fin 64), w (ix2 ⟨k.1, by omega⟩ o) = net.wi k o) (hb : ∀ o : Fin 64, w (ix2 4 o) = net.bi o)
    (o : Fin 64) (p : Fin 16416) :
    k1_pay5 a0 a1 a2 a3 a4 a5 w (ix2 o p) = hid0 net hr hi (pos b p) o := by
  generalize hA : k1_pay2 a0 a1 a2 = A at hR
  generalize hB : k1_pay3 a3 a4 a5 = B at hI
  pointwise [k1_pay5, k1_pay4, hA, hB]
  simp only [hid0, dense, Fin.sum_univ_five, Fin.sum_univ_four, ← hR, ← hI, ← hw, ← hb]
  simp [feat, modulus, tiny, mul_comm, ← hR, ← hI]

/-- The output product at a position. -/
theorem out_at (net : Net) (hr hi : Row) (i : Fin 65536) (wo : Vec Ideal S65x4 .f32) (v : Block) (r : Fin 4)
    (p : Fin 16416) (hw : ∀ (k : Fin 64) (o : Fin 4), wo (ix2 ⟨k.1, by omega⟩ o) = net.wo k o)
    (hb : ∀ o : Fin 4, wo (ix2 64 o) = net.bo o) (hv : ∀ k, v (ix2 k p) = hid4 net hr hi i k) :
    matmul dot_S65x4_S65x16416_S4x16416_0_0_1_1_n_n none (shapeCast S65x4 wo shapeCasts_S65x4_S65x4 : FVec Ideal S65x4 .f32)
      (concatenate S65x16416 0 [⟨S64x16416, v⟩, ⟨S1x16416, k1_pay4 (F := Ideal)⟩]
        concatenates_S64x16416_S1x16416_S65x16416_d0 : FVec Ideal S65x16416 .f32) (constant S4x16416 .f32 0x00000000#32)
      (ix2 r p) = pred net hr hi i r := by
  pointwise [k1_pay4]
  simp only [pred, dense, hw, hb, hv, Finset.univ_unique, Finset.sum_singleton]
  congr 1
  exact Finset.sum_congr rfl fun k _ => mul_comm _ _

/-- What the kernel writes for the block that starts 16 nodes after node `b`. -/
theorem block_at (net : Net) (hr hi : Row) (b : ℕ) (x0 x1 x2 x3 x4 x5 : Vec Ideal S1x16384 .f32) (x6 : Vec Ideal S5x64 .f32)
    (x7 : Vec Ideal S4x65x64 .f32) (x8 : Vec Ideal S65x4 .f32)
    (hR : ∀ p, k1_pay2 (View.ld x0 r1_0) (View.ld x1 r1_1) (View.ld x2 r1_2) (ix2 0 p) = hr (pos b p))
    (hI : ∀ p, k1_pay3 (View.ld x3 r1_0) (View.ld x4 r1_1) (View.ld x5 r1_2) (ix2 0 p) = hi (pos b p))
    (hwi : ∀ (k : Fin 4) (o : Fin 64), x6 (ix2 ⟨k.1, by omega⟩ o) = net.wi k o) (hbi : ∀ o : Fin 64, x6 (ix2 4 o) = net.bi o)
    (hwl : ∀ (l : Fin 4) (k : Fin 64) (o : Fin 64), x7 (ix3 l ⟨k.1, by omega⟩ o) = net.wl l k o)
    (hbl : ∀ (l : Fin 4) (o : Fin 64), x7 (ix3 l 64 o) = net.bl l o)
    (hwo : ∀ (k : Fin 64) (o : Fin 4), x8 (ix2 ⟨k.1, by omega⟩ o) = net.wo k o) (hbo : ∀ o : Fin 4, x8 (ix2 64 o) = net.bo o)
    (r : Fin 4) (q : Fin 16384) :
    out1_9 x0 x1 x2 x3 x4 x5 x6 x7 x8 (ix2 r q) = resid net hr hi r (pos b ⟨q.1 + 16, by omega⟩) := by
  have e0 : ∀ o p, k1_pay21 x0 x1 x2 x3 x4 x5 x6 x7 x8 (ix2 o p) = hid0 net hr hi (pos b p) o := fun o p =>
    pay5_at net hr hi b _ _ _ _ _ _ (View.ld x6 r1_3) hR hI (by intro k o; pointwise; exact hwi k o)
      (by intro o; pointwise; exact hbi o) o p
  generalize hv0 : k1_pay21 x0 x1 x2 x3 x4 x5 x6 x7 x8 = v0 at e0
  have e1 := step_layer net 0 (hid0 net hr hi) b 0 (View.ld x7 r1_4) v0 (by intro k o; pointwise; exact hwl 0 k o)
    (by intro o; pointwise; exact hbl 0 o) (fun o p _ _ => e0 o p)
  have e2 := step_layer net 1 _ b 4 (View.ld x7 r1_5) _ (by intro k o; pointwise; exact hwl 1 k o)
    (by intro o; pointwise; exact hbl 1 o) e1
  generalize hv2 : step k1_pay4 (View.ld x7 r1_5) (step k1_pay4 (View.ld x7 r1_4) v0) = v2 at e2
  have e3 := step_layer net 2 _ b 8 (View.ld x7 r1_6) v2 (by intro k o; pointwise; exact hwl 2 k o)
    (by intro o; pointwise; exact hbl 2 o) e2
  have e4 := step_layer net 3 _ b 12 (View.ld x7 r1_7) _ (by intro k o; pointwise; exact hwl 3 k o)
    (by intro o; pointwise; exact hbl 3 o) e3
  have h25 : k1_pay25 x0 x1 x2 x3 x4 x5 x6 x7 x8 = v2 := by
    rw [← hv2, ← hv0]; exact pay10_eq _ _ _
  have h26 : k1_pay26 x0 x1 x2 x3 x4 x5 x6 x7 x8 = back4 (four (k1_pay25 x0 x1 x2 x3 x4 x5 x6 x7 x8)) := rfl
  have h27 : k1_pay27 x0 x1 x2 x3 x4 x5 x6 x7 x8 = extractStridedSlice S64x16415 ![0, 1]
    (four (k1_pay25 x0 x1 x2 x3 x4 x5 x6 x7 x8)) slices_S64x16416_o0_1_S64x16415 := rfl
  have h28 : k1_pay28 x0 x1 x2 x3 x4 x5 x6 x7 x8 = extractStridedSlice S64x1 ![0, 0]
    (four (k1_pay25 x0 x1 x2 x3 x4 x5 x6 x7 x8)) slices_S64x16416_o0_0_S64x1 := rfl
  have h20 : k1_pay20 x0 x1 x2 x3 x4 x5 x6 x7 x8 = k1_pay4 (F := Ideal) := rfl
  have e5 : ∀ (r : Fin 4) (p : Fin 16416), 16 ≤ p.1 → p.1 + 16 < 16416 →
      k1_pay15 (F := Ideal) k1_pay4 v2 (back4 (four v2)) (extractStridedSlice S64x16415 ![0, 1] (four v2) slices_S64x16416_o0_1_S64x16415)
      (extractStridedSlice S64x1 ![0, 0] (four v2) slices_S64x16416_o0_0_S64x1) (View.ld x7 r1_6) (View.ld x7 r1_7)
      (View.ld x8 r1_8) (ix2 r p) = pred net hr hi (pos b p) r := by
    intro r p h1 h2
    rw [pay15_eq]
    exact out_at net hr hi _ _ _ r p (by intro k o; pointwise; exact hwo k o) (by intro o; pointwise; exact hbo o)
      (fun k => e4 k p h1 h2)
  rw [out1_9, h26, h27, h28, h25, h20]
  generalize hA : k1_pay2 (View.ld x0 r1_0) (View.ld x1 r1_1) (View.ld x2 r1_2) = A at hR
  generalize hB : k1_pay3 (View.ld x3 r1_0) (View.ld x4 r1_1) (View.ld x5 r1_2) = B at hI
  generalize hP : k1_pay15 (F := Ideal) k1_pay4 v2 (back4 (four v2)) (extractStridedSlice S64x16415 ![0, 1] (four v2) slices_S64x16416_o0_1_S64x16415)
      (extractStridedSlice S64x1 ![0, 0] (four v2) slices_S64x16416_o0_0_S64x1) (View.ld x7 r1_6) (View.ld x7 r1_7)
      (View.ld x8 r1_8) = P at e5
  have hq : pos b ⟨q.1 + 16, by omega⟩ = pos b ⟨16 + q.1, by omega⟩ := by simp only [Nat.add_comm]
  have e6 := fun r => e5 r ⟨16 + q.1, by omega⟩ (by simp) (by simp; omega)
  have hR6 := hR ⟨16 + q.1, by omega⟩
  have hI6 := hI ⟨16 + q.1, by omega⟩
  clear e0 e1 e2 e3 e4 e5 h20 h25 h26 h27 h28 hR hI
  rw [View.canon_unit_zero (by funext a; fin_cases a <;> rfl), hq]
  obtain rfl | rfl | rfl | rfl : r = 0 ∨ r = 1 ∨ r = 2 ∨ r = 3 := by fin_cases r <;> simp
  all_goals pointwise [k1_pay1, k1_pay16, k1_pay17, k1_pay18, k1_pay19, hP]
  all_goals simp only [e6, hR6, hI6]
  all_goals rfl

end Cert.Proof.Block

end
-- ==== Proof.Gnn.lean ====
/- What the network's pallas_call leaves in its result: the residual spectrum and the predicted one at every node. -/
module

public import proofs.«01_k».proof.Proof.Block

@[expose] public section

set_option maxRecDepth 16384

noncomputable section

namespace Cert.Proof.Gnn

open Idealize.ShloMosaic Cert.KernelIdeal Cert.KernelIdeal.Gen Cert.Proof.Layer
open Idealize.ShloMosaic.Pipeline (Dat Cfg Window BodyObligation cellOf)

/-- The blocks of the windows: the spectrum's come from the block before, the block itself and the block after, the
    weights' are whole. -/
theorem idx : ∀ t : Fin cfg1.N, win1_0.index t = ![0, (t.val + 3) % 4] ∧ win1_1.index t = ![0, t.val]
    ∧ win1_2.index t = ![0, (t.val + 1) % 4] ∧ win1_3.index t = ![0, (t.val + 3) % 4] ∧ win1_4.index t = ![0, t.val]
    ∧ win1_5.index t = ![0, (t.val + 1) % 4] ∧ win1_6.index t = ![0, 0] ∧ win1_7.index t = ![0, 0, 0]
    ∧ win1_8.index t = ![0, 0] ∧ win1_9.index t = ![0, t.val] ∧ t.val < 4 :=
  (by decide +kernel : ∀ t : Fin grid1.N, _)

variable (V : (c : Dev nD) → (b : Ref sig .tc) → Buf (Elt Ideal) ((c.tc : Thread nD τ).loc b)) (c : Dev nD)

/-- The block of the first row before the one step `t` writes. -/
theorem read0 (t : Fin cfg1.N) (x : Fin 16384) (i : Fin 65536) (h : i.1 = (t.val + 3) % 4 * 16384 + x.1) :
    (iblk1 V c 0 t : FVec Ideal S1x16384 .f32) (ix2 0 x) = (V c main_v27 : FVec Ideal S1x65536 .f32) (ix2 0 i) := by
  have e := (idx t).1
  blk_ext [iblk1, e]

/-- The block of the first row that step `t` writes. -/
theorem read1 (t : Fin cfg1.N) (x : Fin 16384) (i : Fin 65536) (h : i.1 = t.val * 16384 + x.1) :
    (iblk1 V c 1 t : FVec Ideal S1x16384 .f32) (ix2 0 x) = (V c main_v27 : FVec Ideal S1x65536 .f32) (ix2 0 i) := by
  have e := (idx t).2.1
  blk_ext [iblk1, e]

/-- The block of the first row after the one step `t` writes. -/
theorem read2 (t : Fin cfg1.N) (x : Fin 16384) (i : Fin 65536) (h : i.1 = (t.val + 1) % 4 * 16384 + x.1) :
    (iblk1 V c 2 t : FVec Ideal S1x16384 .f32) (ix2 0 x) = (V c main_v27 : FVec Ideal S1x65536 .f32) (ix2 0 i) := by
  have e := (idx t).2.2.1
  blk_ext [iblk1, e]

/-- The block of the second row before the one step `t` writes. -/
theorem read3 (t : Fin cfg1.N) (x : Fin 16384) (i : Fin 65536) (h : i.1 = (t.val + 3) % 4 * 16384 + x.1) :
    (iblk1 V c 3 t : FVec Ideal S1x16384 .f32) (ix2 0 x) = (V c main_v28 : FVec Ideal S1x65536 .f32) (ix2 0 i) := by
  have e := (idx t).2.2.2.1
  blk_ext [iblk1, e]

/-- The block of the second row that step `t` writes. -/
theorem read4 (t : Fin cfg1.N) (x : Fin 16384) (i : Fin 65536) (h : i.1 = t.val * 16384 + x.1) :
    (iblk1 V c 4 t : FVec Ideal S1x16384 .f32) (ix2 0 x) = (V c main_v28 : FVec Ideal S1x65536 .f32) (ix2 0 i) := by
  have e := (idx t).2.2.2.2.1
  blk_ext [iblk1, e]

/-- The block of the second row after the one step `t` writes. -/
theorem read5 (t : Fin cfg1.N) (x : Fin 16384) (i : Fin 65536) (h : i.1 = (t.val + 1) % 4 * 16384 + x.1) :
    (iblk1 V c 5 t : FVec Ideal S1x16384 .f32) (ix2 0 x) = (V c main_v28 : FVec Ideal S1x65536 .f32) (ix2 0 i) := by
  have e := (idx t).2.2.2.2.2.1
  blk_ext [iblk1, e]

/-- Every step reads the first weights whole. -/
theorem read6 (t : Fin cfg1.N) (k : Fin 5) (o : Fin 64) :
    (iblk1 V c 6 t : FVec Ideal S5x64 .f32) (ix2 k o) = (V c main_v30 : FVec Ideal S5x64 .f32) (ix2 k o) := by
  have e := (idx t).2.2.2.2.2.2.1
  blk_ext [iblk1, e]

/-- Every step reads the layer weights whole. -/
theorem read7 (t : Fin cfg1.N) (l : Fin 4) (k : Fin 65) (o : Fin 64) :
    (iblk1 V c 7 t : FVec Ideal S4x65x64 .f32) (ix3 l k o) = (V c main_v32 : FVec Ideal S4x65x64 .f32) (ix3 l k o) := by
  have e := (idx t).2.2.2.2.2.2.2.1
  blk_ext [iblk1, e]

/-- Every step reads the last weights whole. -/
theorem read8 (t : Fin cfg1.N) (k : Fin 65) (o : Fin 4) :
    (iblk1 V c 8 t : FVec Ideal S65x4 .f32) (ix2 k o) = (V c main_v34 : FVec Ideal S65x4 .f32) (ix2 k o) := by
  have e := (idx t).2.2.2.2.2.2.2.2.1
  blk_ext [iblk1, e]

/-- Where an element of a result block lies in the result. -/
theorem place (t : Fin cfg1.N) (r : Fin 4) (q : Fin 16384) :
    (((cfg1.win 9).blk t).view.emb (ix2 r q) : S4x65536.Idx)
      = ix2 r (pos (t.val * 16384 + 65520) ⟨q.1 + 16, by omega⟩) := by
  have e := (idx t).2.2.2.2.2.2.2.2.2.1
  have ht := (idx t).2.2.2.2.2.2.2.2.2.2
  simp only [pos]
  blk_ext [e]

/-- The result array. -/
theorem final (net : Net) (hr hi : Row)
    (hR : ∀ i : Fin 65536, (V c main_v27 : FVec Ideal S1x65536 .f32) (ix2 0 i) = hr i)
    (hI : ∀ i : Fin 65536, (V c main_v28 : FVec Ideal S1x65536 .f32) (ix2 0 i) = hi i)
    (hwi : ∀ (k : Fin 4) (o : Fin 64), (V c main_v30 : FVec Ideal S5x64 .f32) (ix2 ⟨k.1, by omega⟩ o) = net.wi k o)
    (hbi : ∀ o : Fin 64, (V c main_v30 : FVec Ideal S5x64 .f32) (ix2 4 o) = net.bi o)
    (hwl : ∀ (l : Fin 4) (k : Fin 64) (o : Fin 64),
      (V c main_v32 : FVec Ideal S4x65x64 .f32) (ix3 l ⟨k.1, by omega⟩ o) = net.wl l k o)
    (hbl : ∀ (l : Fin 4) (o : Fin 64), (V c main_v32 : FVec Ideal S4x65x64 .f32) (ix3 l 64 o) = net.bl l o)
    (hwo : ∀ (k : Fin 64) (o : Fin 4), (V c main_v34 : FVec Ideal S65x4 .f32) (ix2 ⟨k.1, by omega⟩ o) = net.wo k o)
    (hbo : ∀ o : Fin 4, (V c main_v34 : FVec Ideal S65x4 .f32) (ix2 64 o) = net.bo o) :
    (dat1 V c).arrAt 9 cfg1.N = (fun j => resid net hr hi (j 0) (j 1) : FVec Ideal S4x65536 .f32) := by
  refine (dat1 V c).arrAt_eq_of_covers 9 _ (by decide +kernel) fun t hf y => ?_
  blk_simp
  rw [after1_9]
  idx_vars y
  have ht := (idx t).2.2.2.2.2.2.2.2.2.2
  have e := Block.block_at net hr hi (t.val * 16384 + 65520) (iblk1 V c 0 t) (iblk1 V c 1 t) (iblk1 V c 2 t) (iblk1 V c 3 t)
    (iblk1 V c 4 t) (iblk1 V c 5 t) (iblk1 V c 6 t) (iblk1 V c 7 t) (iblk1 V c 8 t) ?_ ?_
    (fun k o => (read6 V c t _ o).trans (hwi k o)) (fun o => (read6 V c t 4 o).trans (hbi o))
    (fun l k o => (read7 V c t l _ o).trans (hwl l k o)) (fun l o => (read7 V c t l 64 o).trans (hbl l o))
    (fun k o => (read8 V c t _ o).trans (hwo k o)) (fun o => (read8 V c t 64 o).trans (hbo o)) y0 y1
  · exact e.trans (congrArg (fun j : S4x65536.Idx => resid net hr hi (j 0) (j 1)) (place t y0 y1)).symm
  · intro p
    pointwise [k1_pay2]
    split
    · exact (read0 V c t _ (pos (t.val * 16384 + 65520) p) (by simp [pos]; omega)).trans (hR _)
    · split
      · exact (read1 V c t _ (pos (t.val * 16384 + 65520) p) (by simp [pos]; omega)).trans (hR _)
      · exact (read2 V c t _ (pos (t.val * 16384 + 65520) p) (by simp [pos]; omega)).trans (hR _)
  · intro p
    pointwise [k1_pay3]
    split
    · exact (read3 V c t _ (pos (t.val * 16384 + 65520) p) (by simp [pos]; omega)).trans (hI _)
    · split
      · exact (read4 V c t _ (pos (t.val * 16384 + 65520) p) (by simp [pos]; omega)).trans (hI _)
      · exact (read5 V c t _ (pos (t.val * 16384 + 65520) p) (by simp [pos]; omega)).trans (hI _)

end Cert.Proof.Gnn

end
-- ==== Proof.Spectrum.lean ====
/- The reference's spectrum: the real and imaginary parts of the transform of 65536 reals, each times its scale. -/
module

public import proofs.«01_k».proof.Proof.Gen.ReferenceIdeal.Read
public import proofs.«01_k».proof.Proof.Angle
public import proofs.«01_k».proof.Proof.Dft
public import Idealize.ShloMosaic.Lib.Pointwise

@[expose] public section

set_option maxRecDepth 16384

noncomputable section

namespace Cert.Proof.Spectrum

open Idealize.ShloMosaic Cert.ReferenceIdeal Cert.ReferenceIdeal.Gen Cert.ReferenceIdeal.Read

/-- Entry `n` of the signal, in row-major order. -/
def entry (x : FVec Ideal S256x256 .f32) (n : Fin 65536) : EReal :=
  x (ix2 (⟨n.1 / 256, by omega⟩ : Fin 256) (⟨n.1 % 256, by omega⟩ : Fin 256))

/-- The table of cosines. -/
theorem cos_table (n k : Fin 65536) :
    (val_main_v11 (F := Ideal) : FVec Ideal S65536x65536 .f32) (ix2 n k) = ((Real.cos (Dft.ang 65536 (n.1 * k.1)) : ℝ) : EReal) := by
  pointwise [val_main_v11, val_main_v10, val_main_v9, val_main_v8, val_main_v7, val_main_v6, val_main_v5, val_main_v4,
    val_main_v3, val_main_v2, val_main_v1, val_main_c, val_main_cst, val_main_cst_0, val_main_cst_1]
  rw [Angle.long, Ideal.cos_coe, Angle.cos_mod _ _ (by norm_num)]
  rfl

/-- The table of sines. -/
theorem sin_table (n k : Fin 65536) :
    (val_main_v13 (F := Ideal) : FVec Ideal S65536x65536 .f32) (ix2 n k) = ((Real.sin (Dft.ang 65536 (n.1 * k.1)) : ℝ) : EReal) := by
  pointwise [val_main_v13, val_main_v10, val_main_v9, val_main_v8, val_main_v7, val_main_v6, val_main_v5, val_main_v4,
    val_main_v3, val_main_v2, val_main_v1, val_main_c, val_main_cst, val_main_cst_0, val_main_cst_1]
  rw [Angle.long, Ideal.sin_coe, Angle.sin_mod _ _ (by norm_num)]
  rfl

variable (x : FVec Ideal S256x256 .f32) (w : Fin 65536 → ℝ) (hw : ∀ n, entry x n = (w n : EReal))

/-- The signal as one row. -/
theorem row (n : Fin 65536) : (val_main_v0 (F := Ideal) x : FVec Ideal S65536 .f32) (ix1 n) = entry x n := by
  pointwise [val_main_v0]
  rfl

include hw in
/-- The real part, times its scale. -/
theorem re (a : FVec Ideal S_ .f32) (i : Fin 65536) :
    (val_main_v17 (F := Ideal) x a : FVec Ideal S65536 .f32) (ix1 i) = (a ix0 * ((Dft.re w i.1 : ℝ) : EReal) : EReal) := by
  rw [val_main_v17_apply, val_main_v12_apply]
  show (val_main_v16 (F := Ideal) a (ix1 i) * _ : EReal) = _
  refine congr_arg₂ (fun a b : EReal => a * b) (by pointwise [val_main_v16]) ?_
  unfold Dft.re
  rw [Dft.coe_sum]
  refine Finset.sum_congr rfl fun n _ => ?_
  rw [show lidx_main_v12 (ix1 i) n = ix1 n from eq_ix1 _, show ridx_main_v12 (ix1 i) n = ix2 n i from eq_ix2 _,
    row, cos_table, hw, EReal.coe_mul]

include hw in
/-- The imaginary part, times its scale. -/
theorem im (a : FVec Ideal S_ .f32) (i : Fin 65536) :
    (val_main_v19 (F := Ideal) x a : FVec Ideal S65536 .f32) (ix1 i) = (a ix0 * ((Dft.im w i.1 : ℝ) : EReal) : EReal) := by
  rw [val_main_v19_apply, val_main_v15_apply, val_main_v14_apply]
  show (val_main_v18 (F := Ideal) a (ix1 i) * (-_ : EReal) : EReal) = _
  refine congr_arg₂ (fun a b : EReal => a * b) (by pointwise [val_main_v18]) ?_
  unfold Dft.im
  rw [EReal.coe_neg, Dft.coe_sum]
  refine congrArg (fun a : EReal => -a) ?_
  refine Finset.sum_congr rfl fun n _ => ?_
  rw [show lidx_main_v14 (ix1 i) n = ix1 n from eq_ix1 _, show ridx_main_v14 (ix1 i) n = ix2 n i from eq_ix2 _,
    row, sin_table, hw, EReal.coe_mul]

end Cert.Proof.Spectrum

end
-- ==== Proof.Whole.lean ====
/- What the kernel's result holds: the quantised residual spectrum of Model.lean, for real signals. -/
module

public import proofs.«01_k».proof.Proof.Run
public import proofs.«01_k».proof.Proof.Fft
public import proofs.«01_k».proof.Proof.Dft
public import proofs.«01_k».proof.Proof.Host
public import proofs.«01_k».proof.Proof.Gnn
public import proofs.«01_k».proof.Proof.Quant
public import proofs.«01_k».proof.Proof.Hidden
public import proofs.«01_k».proof.Proof.Spectrum

@[expose] public section

set_option maxRecDepth 16384

noncomputable section

namespace Cert.Proof.Whole

open Idealize.ShloMosaic Idealize.ShloMosaic.StableHlo Cert.KernelIdeal Cert.KernelIdeal.Gen

variable (m : (ℓ : Loc nD τ sig) → Buf (Elt Ideal) ℓ) (ρ : Dev nD → PrngReg) (c : Dev nD)

/-- The signal. -/
abbrev signal : FVec Ideal S256x256 .f32 := m ((c.tc : Thread nD τ).loc main_arg0)

/-- The first scale. -/
abbrev alpha : FVec Ideal S_ .f32 := m ((c.tc : Thread nD τ).loc main_arg7)

/-- The second scale. -/
abbrev beta : FVec Ideal S_ .f32 := m ((c.tc : Thread nD τ).loc main_arg8)

/-- The network of the arguments. -/
abbrev net : Net := Hidden.net (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6))

variable (w : Fin 65536 → ℝ) (hw : ∀ n, Spectrum.entry (signal m c) n = (w n : EReal))

/-- The scaled real parts of the transform. -/
def hr : Row := fun i => alpha m c ix0 * ((Dft.re w i.1 : ℝ) : EReal)

/-- The scaled imaginary parts of the transform. -/
def hi : Row := fun i => beta m c ix0 * ((Dft.im w i.1 : ℝ) : EReal)

/-- The table of cosines. -/
theorem tab_cos : Fft.tab (V1 m ρ c main_v20) = Dft.up fun j k => Real.cos (Dft.ang 256 (j.1 * k.1)) := by
  funext j k
  exact Host.cos_short m ρ c j k

/-- The table of sines, negated. -/
theorem tab_sin : Fft.tab (V1 m ρ c main_v22) = Dft.up fun j k => -Real.sin (Dft.ang 256 (j.1 * k.1)) := by
  funext j k
  exact Host.sin_short m ρ c j k

/-- The cosines of the twiddles. -/
theorem tab_twiddle_cos : Fft.tab (V1 m ρ c main_v23) = Dft.up fun j k => Real.cos (Dft.ang 65536 (j.1 * k.1)) := by
  funext j k
  exact Host.cos_twiddle m ρ c j k

/-- The sines of the twiddles, negated. -/
theorem tab_twiddle_sin : Fft.tab (V1 m ρ c main_v25) = Dft.up fun j k => -Real.sin (Dft.ang 65536 (j.1 * k.1)) := by
  funext j k
  exact Host.sin_twiddle m ρ c j k

include hw in
/-- The signal as a square of reals. -/
theorem tab_signal : Fft.tab (V1 m ρ c main_arg0) = Dft.up fun j n => w (Dft.at2 j n) := by
  funext j n
  refine (congrFun (Host.weights m ρ c) (ix2 j n)).trans (Eq.trans ?_ (hw (Dft.at2 j n)))
  unfold Spectrum.entry
  refine congrArg (signal m c) ?_
  have e1 : (⟨(Dft.at2 j n).1 / 256, by omega⟩ : Fin 256) = j := Fin.ext (by
    show (256 * j.1 + n.1) / 256 = j.1
    omega)
  have e2 : (⟨(Dft.at2 j n).1 % 256, by omega⟩ : Fin 256) = n := Fin.ext (by
    show (256 * j.1 + n.1) % 256 = n.1
    omega)
  rw [e1, e2]

include hw in
/-- The first row the network reads. -/
theorem row_re (i : Fin 65536) : (V3 m ρ c main_v27 : FVec Ideal S1x65536 .f32) (ix2 0 i) = hr m c w i := by
  refine (Host.row_re m ρ c i).trans ?_
  have h := (W2_arr m ρ c 6).trans (Fft.final6 (V1 m ρ) c)
  rw [tab_signal m ρ c w hw, tab_cos, tab_sin, tab_twiddle_cos, tab_twiddle_sin] at h
  refine (congrFun h _).trans ?_
  show (_ * Fft.fourR _ _ _ _ _ (⟨i.1 / 256, by omega⟩ : Fin 256) (⟨i.1 % 256, by omega⟩ : Fin 256) : EReal) = _
  rw [Dft.four_re]
  unfold hr
  refine congr_arg₂ (fun a b : EReal => a * b) (Host.scale_re m ρ c) ?_
  show ((Dft.re w (256 * (i.1 / 256) + i.1 % 256) : ℝ) : EReal) = _
  rw [Nat.div_add_mod]

include hw in
/-- The second row the network reads. -/
theorem row_im (i : Fin 65536) : (V3 m ρ c main_v28 : FVec Ideal S1x65536 .f32) (ix2 0 i) = hi m c w i := by
  refine (Host.row_im m ρ c i).trans ?_
  have h := (W2_arr m ρ c 7).trans (Fft.final7 (V1 m ρ) c)
  rw [tab_signal m ρ c w hw, tab_cos, tab_sin, tab_twiddle_cos, tab_twiddle_sin] at h
  refine (congrFun h _).trans ?_
  show (_ * Fft.fourI _ _ _ _ _ (⟨i.1 / 256, by omega⟩ : Fin 256) (⟨i.1 % 256, by omega⟩ : Fin 256) : EReal) = _
  rw [Dft.four_im]
  unfold hi
  refine congr_arg₂ (fun a b : EReal => a * b) (Host.scale_im m ρ c) ?_
  show ((Dft.im w (256 * (i.1 / 256) + i.1 % 256) : ℝ) : EReal) = _
  rw [Nat.div_add_mod]

include hw in
/-- The rows the quantiser reads. -/
theorem residual : (V4 m ρ c main_v35 : FVec Ideal S4x65536 .f32)
    = fun j => resid (net m c) (hr m c w) (hi m c w) (j 0) (j 1) :=
  (W4_arr m ρ c 9).trans (Gnn.final (V3 m ρ) c (net m c) (hr m c w) (hi m c w) (row_re m ρ c w hw) (row_im m ρ c w hw)
    (Host.wi m ρ c) (Host.bi m ρ c) (Host.wl m ρ c) (Host.bl m ρ c) (Host.wo m ρ c) (Host.bo m ρ c))

include hw in
/-- The result. -/
theorem result : W5 m ρ c (Proc.devRef .tc main_v36)
    = (fun j => quant (resid (net m c) (hr m c w) (hi m c w)) (j 0) (j 1) : FVec Ideal S4x65536 .f32) := by
  refine (Run.W5_result m ρ c).trans ((Quant.final (V4 m ρ) c).trans ?_)
  rw [show Quant.rows (V4 m ρ c main_v35) = resid (net m c) (hr m c w) (hi m c w) from by
    funext r i
    exact congrFun (residual m ρ c w hw) (ix2 r i)]

end Cert.Proof.Whole

end
-- ==== Proof.Algebra.lean ====
/- The value claim: on a real signal and the ring of edges the kernel and the reference leave the same array. -/
module

public import proofs.«01_k».proof.Proof.Frames
public import proofs.«01_k».proof.Proof.Pre
public import proofs.«01_k».proof.Proof.Output
public import proofs.«01_k».proof.Proof.Whole
public import proofs.«01_k».proof.Proof.Gen.ReferenceIdeal.Read

@[expose] public section

set_option maxRecDepth 16384

noncomputable section

namespace Cert.Proof.Algebra

open Idealize.ShloMosaic Idealize.ShloMosaic.StableHlo Idealize.SL.Sem

attribute [local instance] Cert.KernelIdeal.Gen.facts Cert.ReferenceIdeal.Gen.facts Cert.Pre_ring_of_finite.Gen.facts

section value

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's result array, of the kernel's arguments. -/
abbrev reference : FVec Ideal Cert.ReferenceIdeal.S4x65536 .f32 :=
  Cert.ReferenceIdeal.Read.val_main_v203 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))

/-- The numbers of the signal, as reals. -/
def signal (n : Fin 65536) : ℝ := (Spectrum.entry (Whole.signal m c) n).toReal

variable (h : Cert.Pre_KernelIdeal_ring_of_finite m)
include h

/-- They are the signal. -/
theorem signal_eq (n : Fin 65536) : Spectrum.entry (Whole.signal m c) n = (signal m c n : EReal) := by
  unfold signal Spectrum.entry
  obtain ⟨r, e⟩ := Pre.fin0 _ _ _ _ _ _ _ _ _ _ (h c).1
    (ix2 (⟨n.1 / 256, by omega⟩ : Fin 256) (⟨n.1 % 256, by omega⟩ : Fin 256))
  have e' : Whole.signal m c (ix2 (⟨n.1 / 256, by omega⟩ : Fin 256) (⟨n.1 % 256, by omega⟩ : Fin 256)) = (r : EReal) := e
  rw [e', EReal.toReal_coe]

/-- The kernel's result is the reference's result. -/
theorem value : Cert.KernelIdeal.Gen.W5 m ρ c (Proc.devRef .tc Cert.KernelIdeal.main_v36) = reference m c := by
  refine (Whole.result m ρ c (signal m c) (signal_eq m c h)).trans (funext fun j => ?_)
  refine Eq.trans ?_ (congrArg (reference m c) (eq_ix2 j)).symm
  exact (Output.result _ _ _ _ _ _ _ _ _ _ (Whole.hr m c (signal m c)) (Whole.hi m c (signal m c))
    (fun i => Spectrum.re _ (signal m c) (signal_eq m c h) _ i)
    (fun i => Spectrum.im _ (signal m c) (signal_eq m c h) _ i)
    (Pre.src _ _ _ _ _ _ _ _ _ _ (h c).2.1)
    (Pre.dst _ _ _ _ _ _ _ _ _ _ (h c).2.2)
    (j 0) (j 1)).symm

end value

/-- The kernel and the reference, from memories that agree on the arguments, end with equal results. -/
theorem algebraic : Cert.algebraic_KernelIdeal_ReferenceIdeal_pre_ring_of_finite := by
  intro m g m' g' h agree
  refine ⟨fun c => Cert.KernelIdeal.Gen.W5 m g c (Proc.devRef .tc Cert.KernelIdeal.main_v36), Run.run m g, ?_⟩
  refine (θ_run Cert.ReferenceIdeal.defs _ _).mono (fun r hr c => ⟨?_, (hr c).2⟩) (Cert.ReferenceIdeal.Value.run m' g')
  refine (hr c).1.trans ((Cert.ReferenceIdeal.Read.val_main_v203_eq (launchContents m' c)).trans ?_)
  refine Eq.trans ?_ (value m g c h).symm
  obtain ⟨e0, e1, e2, e3, e4, e5, e6, e7, e8, e9⟩ := agree c
  unfold reference
  rw [← e0, ← e1, ← e2, ← e3, ← e4, ← e5, ← e6, ← e7, ← e8, ← e9]

end Cert.Proof.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ring_of_finite
public import proofs.«01_k».proof.Proof.Gen.ReferenceIdeal.Run
public import proofs.«01_k».proof.Proof.Gen.ReferenceIdeal.Read
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Every claim of the statement. -/
theorem claim : Cert.Claim :=
  ⟨Cert.Kernel.Gen.facts, Cert.KernelIdeal.Gen.facts, Cert.ReferenceIdeal.Gen.facts, Cert.Pre_ring_of_finite.Gen.facts,
    frame_kernel, frame_kernelIdeal, frame_kernelIdeal_pre, frame_reference, frame_reference_pre, preserves, Algebra.algebraic⟩

end Cert.Proof

end
